-- ==== Defs.lean ====
def Pre_Kernel [hPre_offsets_in_range : Cert.Pre_offsets_in_range.Facts] (m : (ℓ : Loc Cert.Kernel.nD Cert.Kernel.τ Cert.Kernel.sig) → Buf (Elt Bits) ℓ) : Prop :=
  ∀ c : Dev Cert.Kernel.nD,
    (Cert.Pre_offsets_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_offsets_in_range : Cert.Pre_offsets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_offsets_in_range [hPre_offsets_in_range : Cert.Pre_offsets_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_offsets_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_offsets_in_range : Cert.Pre_offsets_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_offsets_in_range : Cert.Pre_offsets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_offsets_in_range [hReferenceIdeal : Cert.ReferenceIdeal.Facts] [hPre_offsets_in_range : Cert.Pre_offsets_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_offsets_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_offsets_in_range : Cert.Pre_offsets_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_offsets_in_range : Cert.Pre_offsets_in_range.Facts),
    quiescent_Kernel (hKernel := hKernel) (hPre_offsets_in_range := hPre_offsets_in_range)
    ∧ quiescent_KernelIdeal (hKernelIdeal := hKernelIdeal) (hPre_offsets_in_range := hPre_offsets_in_range)
    ∧ quiescent_ReferenceIdeal (hReferenceIdeal := hReferenceIdeal)
    ∧ quiescent_ReferenceIdeal_pre_offsets_in_range (hReferenceIdeal := hReferenceIdeal) (hPre_offsets_in_range := hPre_offsets_in_range)
    ∧ preserves_Kernel_KernelIdeal
    ∧ algebraic_KernelIdeal_ReferenceIdeal (hKernelIdeal := hKernelIdeal) (hReferenceIdeal := hReferenceIdeal) (hPre_offsets_in_range := hPre_offsets_in_range)
-- ==== Pre_offsets_in_range.lean ====
abbrev S122968x128 : Shape := ⟨2, ![122968, 128]⟩
abbrev S1537 : Shape := ⟨1, ![1537]⟩
abbrev S_ : Shape := ⟨0, ![]⟩

class Facts : Prop where
  bcast_S_S1537 : S_.BroadcastsInDim S1537 (![] : Fin 0 → Fin S1537.rank)

variable [Facts]

def fn {F : FTy → Type} [FloatOps F] (main_arg0 : IVec S122968x128 32) (main_arg1 : IVec S1537 32) : IVec S1537 1 :=
  let main_c : IVec S_ 32 := constantI S_ 32 0#32
  let main_v0 : IVec S1537 32 := broadcastInDim S1537 ![] bcast_S_S1537 main_c
  let main_v1 : IVec S1537 1 := cmpi .sge main_arg1 main_v0
  let main_c_0 : IVec S_ 32 := constantI S_ 32 122880#32
  let main_v2 : IVec S1537 32 := broadcastInDim S1537 ![] bcast_S_S1537 main_c_0
  let main_v3 : IVec S1537 1 := cmpi .sle main_arg1 main_v2
  let main_v4 : IVec S1537 1 := andi main_v1 main_v3
  main_v4
-- ==== Kernel.lean ====
abbrev S122968x128 : Shape := ⟨2, ![122968, 128]⟩
abbrev S1537 : Shape := ⟨1, ![1537]⟩
abbrev S_ : Shape := ⟨0, ![]⟩
abbrev S1 : Shape := ⟨1, ![1]⟩
abbrev S1x0 : Shape := ⟨2, ![1, 0]⟩
abbrev S0 : Shape := ⟨1, ![0]⟩
abbrev S1x511 : Shape := ⟨2, ![1, 511]⟩
abbrev S511 : Shape := ⟨1, ![511]⟩
abbrev S2048 : Shape := ⟨1, ![2048]⟩
abbrev S1536x256 : Shape := ⟨2, ![1536, 256]⟩
abbrev S352x128 : Shape := ⟨2, ![352, 128]⟩
abbrev S48x256 : Shape := ⟨2, ![48, 256]⟩
abbrev S4 : Shape := ⟨1, ![4]⟩
abbrev S16 : Shape := ⟨1, ![16]⟩
abbrev S88x128 : Shape := ⟨2, ![88, 128]⟩
abbrev S1x16 : Shape := ⟨2, ![1, 16]⟩

abbrev nBuf : Table → Nat
  | .hbm => 11
  | .local .scVector .vmem => 3
  | _ => 0

abbrev bufTy : (tb : Table) → Fin (nBuf tb) → BufTy
  | .hbm, ⟨0, _⟩ => ⟨S122968x128, .i32⟩
  | .hbm, ⟨1, _⟩ => ⟨S1537, .i32⟩
  | .hbm, ⟨2, _⟩ => ⟨S_, .i32⟩
  | .hbm, ⟨3, _⟩ => ⟨S1, .i32⟩
  | .hbm, ⟨4, _⟩ => ⟨S1x0, .i32⟩
  | .hbm, ⟨5, _⟩ => ⟨S0, .i32⟩
  | .hbm, ⟨6, _⟩ => ⟨S1, .i32⟩
  | .hbm, ⟨7, _⟩ => ⟨S1x511, .i32⟩
  | .hbm, ⟨8, _⟩ => ⟨S511, .i32⟩
  | .hbm, ⟨9, _⟩ => ⟨S2048, .i32⟩
  | .hbm, ⟨10, _⟩ => ⟨S1536x256, .f32⟩
  | .local .scVector .vmem, ⟨0, _⟩ => ⟨S352x128, .i32⟩
  | .local .scVector .vmem, ⟨1, _⟩ => ⟨S48x256, .f32⟩
  | .local .scVector .vmem, ⟨2, _⟩ => ⟨S2048, .i32⟩
  | _, _ => ⟨S122968x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩
abbrev main_v1 : Ref sig .tc := ⟨.hbm, 10, rfl⟩
abbrev main_arg0_scv : Ref sig .scVector := ⟨.hbm, 0, rfl⟩
abbrev main_v0_scv : Ref sig .scVector := ⟨.hbm, 9, rfl⟩
abbrev main_v1_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c48_i32 : BitVec 32 := 48#32
  let v5 : BitVec 32 := Scalar.muli v1 c48_i32
  let c0_i32_0 : BitVec 32 := 0#32
  let v6 : BitVec 32 := Scalar.addi v5 c0_i32_0
  let v7 : Index := Scalar.indexCast v6
  ![v7.toNat]
def k0_mult1 (v10 : BitVec 32) : BitVec 32 :=
  let c0_i32_6 : BitVec 32 := 0#32
  let v28 : BitVec 1 := Scalar.cmpi .sgt v10 c0_i32_6
  let v29 : BitVec 32 := Scalar.extui v28
  let c0_i32_7 : BitVec 32 := 0#32
  let v30 : BitVec 1 := Scalar.cmpi .slt v10 c0_i32_7
  let v31 : BitVec 32 := Scalar.extui v30
  let v32 : BitVec 32 := Scalar.subi v29 v31
  let c8_i32 : BitVec 32 := 8#32
  let c0_i32_8 : BitVec 32 := 0#32
  let v33 : BitVec 1 := Scalar.cmpi .sgt c8_i32 c0_i32_8
  let v34 : BitVec 32 := Scalar.extui v33
  let c0_i32_9 : BitVec 32 := 0#32
  let v35 : BitVec 1 := Scalar.cmpi .slt c8_i32 c0_i32_9
  let v36 : BitVec 32 := Scalar.extui v35
  let v37 : BitVec 32 := Scalar.subi v34 v36
  let v38 : BitVec 1 := Scalar.cmpi .ne v32 v37
  let v39 : BitVec 32 := Scalar.remsi v10 c8_i32
  let c0_i32_10 : BitVec 32 := 0#32
  let v40 : BitVec 1 := Scalar.cmpi .ne v39 c0_i32_10
  let v41 : BitVec 1 := Scalar.andi v38 v40
  let v27 : BitVec 32 := Scalar.divsi v10 c8_i32
  let c1_i32_11 : BitVec 32 := 1#32
  let v42 : BitVec 32 := Scalar.subi v27 c1_i32_11
  let v43 : BitVec 32 := Scalar.select v41 v42 v27
  let c8_i32_12 : BitVec 32 := 8#32
  let v44 : BitVec 32 := Scalar.muli v43 c8_i32_12
  v44

def k0_off2 : Fin 2 → Nat :=
  let c0_i32_1 : BitVec 32 := 0#32
  let c4_i32 : BitVec 32 := 4#32
  let c0_i32_2 : BitVec 32 := 0#32
  let v17 : BitVec 1 := Scalar.cmpi .eq c4_i32 c0_i32_2
  let c1_i32 : BitVec 32 := 1#32
  let v18 : BitVec 32 := Scalar.select v17 c1_i32 c4_i32
  let v19 : BitVec 32 := Scalar.remsi c0_i32_1 v18
  let c0_i32_4 : BitVec 32 := 0#32
  let v21 : BitVec 1 := Scalar.cmpi .slt v19 c0_i32_4
  let c0_i32_5 : BitVec 32 := 0#32
  let v22 : BitVec 1 := Scalar.cmpi .slt v18 c0_i32_5
  let v23 : BitVec 1 := Scalar.xori v21 v22
  let c0_i32_3 : BitVec 32 := 0#32
  let v20 : BitVec 1 := Scalar.cmpi .ne v19 c0_i32_3
  let v24 : BitVec 1 := Scalar.andi v23 v20
  let v25 : BitVec 32 := Scalar.addi v19 v18
  let v26 : BitVec 32 := Scalar.select v24 v25 v19
  let c88_i32 : BitVec 32 := 88#32
  let v46 : BitVec 32 := Scalar.muli v26 c88_i32
  let c0_i32_13 : BitVec 32 := 0#32
  ![v46.toNat, 0]
def k0_off3 (v10 : BitVec 32) : Fin 2 → Nat :=
  let c0_i32_6 : BitVec 32 := 0#32
  let v28 : BitVec 1 := Scalar.cmpi .sgt v10 c0_i32_6
  let v29 : BitVec 32 := Scalar.extui v28
  let c0_i32_7 : BitVec 32 := 0#32
  let v30 : BitVec 1 := Scalar.cmpi .slt v10 c0_i32_7
  let v31 : BitVec 32 := Scalar.extui v30
  let v32 : BitVec 32 := Scalar.subi v29 v31
  let c8_i32 : BitVec 32 := 8#32
  let c0_i32_8 : BitVec 32 := 0#32
  let v33 : BitVec 1 := Scalar.cmpi .sgt c8_i32 c0_i32_8
  let v34 : BitVec 32 := Scalar.extui v33
  let c0_i32_9 : BitVec 32 := 0#32
  let v35 : BitVec 1 := Scalar.cmpi .slt c8_i32 c0_i32_9
  let v36 : BitVec 32 := Scalar.extui v35
  let v37 : BitVec 32 := Scalar.subi v34 v36
  let v38 : BitVec 1 := Scalar.cmpi .ne v32 v37
  let v39 : BitVec 32 := Scalar.remsi v10 c8_i32
  let c0_i32_10 : BitVec 32 := 0#32
  let v40 : BitVec 1 := Scalar.cmpi .ne v39 c0_i32_10
  let v41 : BitVec 1 := Scalar.andi v38 v40
  let v27 : BitVec 32 := Scalar.divsi v10 c8_i32
  let c1_i32_11 : BitVec 32 := 1#32
  let v42 : BitVec 32 := Scalar.subi v27 c1_i32_11
  let v43 : BitVec 32 := Scalar.select v41 v42 v27
  let c8_i32_12 : BitVec 32 := 8#32
  let v44 : BitVec 32 := Scalar.muli v43 c8_i32_12
  let v45 : BitVec 32 := v44
  let c0_i32_14 : BitVec 32 := 0#32
  ![v45.toNat, 0]

def k0_chk1 (v10 : BitVec 32) : Prop :=
  (8 ∣ (k0_mult1 v10).toNat) ∧
  (∀ a, (k0_off3 v10) a + S88x128.size a ≤ S122968x128.size a)
theorem k0_mult1_dvd : ∀ (v10 : BitVec 32) (k0_hw1 : k0_chk1 v10), 8 ∣ (k0_mult1 v10).toNat := fun v10 k0_hw1 => k0_hw1.1
theorem k0_off3_inb : ∀ (v10 : BitVec 32) (k0_hw1 : k0_chk1 v10), ∀ a, (k0_off3 v10) a + S88x128.size a ≤ S122968x128.size a := fun v10 k0_hw1 => k0_hw1.2

def k0_off4 : Fin 1 → Nat :=
  let c0_i32_1 : BitVec 32 := 0#32
  let c4_i32 : BitVec 32 := 4#32
  let c0_i32_2 : BitVec 32 := 0#32
  let v17 : BitVec 1 := Scalar.cmpi .eq c4_i32 c0_i32_2
  let c1_i32 : BitVec 32 := 1#32
  let v18 : BitVec 32 := Scalar.select v17 c1_i32 c4_i32
  let v19 : BitVec 32 := Scalar.remsi c0_i32_1 v18
  let c0_i32_4 : BitVec 32 := 0#32
  let v21 : BitVec 1 := Scalar.cmpi .slt v19 c0_i32_4
  let c0_i32_5 : BitVec 32 := 0#32
  let v22 : BitVec 1 := Scalar.cmpi .slt v18 c0_i32_5
  let v23 : BitVec 1 := Scalar.xori v21 v22
  let c0_i32_3 : BitVec 32 := 0#32
  let v20 : BitVec 1 := Scalar.cmpi .ne v19 c0_i32_3
  let v24 : BitVec 1 := Scalar.andi v23 v20
  let v25 : BitVec 32 := Scalar.addi v19 v18
  let v26 : BitVec 32 := Scalar.select v24 v25 v19
  ![v26.toNat]
def k0_off5 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c48_i32_17 : BitVec 32 := 48#32
  let v53 : BitVec 32 := Scalar.muli v1 c48_i32_17
  let c1_i32_18 : BitVec 32 := 1#32
  let v54 : BitVec 32 := Scalar.addi v53 c1_i32_18
  let v55 : Index := Scalar.indexCast v54
  ![v55.toNat]
def k0_mult2 (v58 : BitVec 32) : BitVec 32 :=
  let c0_i32_28 : BitVec 32 := 0#32
  let v76 : BitVec 1 := Scalar.cmpi .sgt v58 c0_i32_28
  let v77 : BitVec 32 := Scalar.extui v76
  let c0_i32_29 : BitVec 32 := 0#32
  let v78 : BitVec 1 := Scalar.cmpi .slt v58 c0_i32_29
  let v79 : BitVec 32 := Scalar.extui v78
  let v80 : BitVec 32 := Scalar.subi v77 v79
  let c8_i32_27 : BitVec 32 := 8#32
  let c0_i32_30 : BitVec 32 := 0#32
  let v81 : BitVec 1 := Scalar.cmpi .sgt c8_i32_27 c0_i32_30
  let v82 : BitVec 32 := Scalar.extui v81
  let c0_i32_31 : BitVec 32 := 0#32
  let v83 : BitVec 1 := Scalar.cmpi .slt c8_i32_27 c0_i32_31
  let v84 : BitVec 32 := Scalar.extui v83
  let v85 : BitVec 32 := Scalar.subi v82 v84
  let v86 : BitVec 1 := Scalar.cmpi .ne v80 v85
  let v87 : BitVec 32 := Scalar.remsi v58 c8_i32_27
  let c0_i32_32 : BitVec 32 := 0#32
  let v88 : BitVec 1 := Scalar.cmpi .ne v87 c0_i32_32
  let v89 : BitVec 1 := Scalar.andi v86 v88
  let v75 : BitVec 32 := Scalar.divsi v58 c8_i32_27
  let c1_i32_33 : BitVec 32 := 1#32
  let v90 : BitVec 32 := Scalar.subi v75 c1_i32_33
  let v91 : BitVec 32 := Scalar.select v89 v90 v75
  let c8_i32_34 : BitVec 32 := 8#32
  let v92 : BitVec 32 := Scalar.muli v91 c8_i32_34
  v92

def k0_off6 : Fin 2 → Nat :=
  let c1_i32_20 : BitVec 32 := 1#32
  let c4_i32_21 : BitVec 32 := 4#32
  let c0_i32_22 : BitVec 32 := 0#32
  let v65 : BitVec 1 := Scalar.cmpi .eq c4_i32_21 c0_i32_22
  let c1_i32_23 : BitVec 32 := 1#32
  let v66 : BitVec 32 := Scalar.select v65 c1_i32_23 c4_i32_21
  let v67 : BitVec 32 := Scalar.remsi c1_i32_20 v66
  let c0_i32_25 : BitVec 32 := 0#32
  let v69 : BitVec 1 := Scalar.cmpi .slt v67 c0_i32_25
  let c0_i32_26 : BitVec 32 := 0#32
  let v70 : BitVec 1 := Scalar.cmpi .slt v66 c0_i32_26
  let v71 : BitVec 1 := Scalar.xori v69 v70
  let c0_i32_24 : BitVec 32 := 0#32
  let v68 : BitVec 1 := Scalar.cmpi .ne v67 c0_i32_24
  let v72 : BitVec 1 := Scalar.andi v71 v68
  let v73 : BitVec 32 := Scalar.addi v67 v66
  let v74 : BitVec 32 := Scalar.select v72 v73 v67
  let c88_i32_35 : BitVec 32 := 88#32
  let v94 : BitVec 32 := Scalar.muli v74 c88_i32_35
  let c0_i32_36 : BitVec 32 := 0#32
  ![v94.toNat, 0]
def k0_off7 (v58 : BitVec 32) : Fin 2 → Nat :=
  let c0_i32_28 : BitVec 32 := 0#32
  let v76 : BitVec 1 := Scalar.cmpi .sgt v58 c0_i32_28
  let v77 : BitVec 32 := Scalar.extui v76
  let c0_i32_29 : BitVec 32 := 0#32
  let v78 : BitVec 1 := Scalar.cmpi .slt v58 c0_i32_29
  let v79 : BitVec 32 := Scalar.extui v78
  let v80 : BitVec 32 := Scalar.subi v77 v79
  let c8_i32_27 : BitVec 32 := 8#32
  let c0_i32_30 : BitVec 32 := 0#32
  let v81 : BitVec 1 := Scalar.cmpi .sgt c8_i32_27 c0_i32_30
  let v82 : BitVec 32 := Scalar.extui v81
  let c0_i32_31 : BitVec 32 := 0#32
  let v83 : BitVec 1 := Scalar.cmpi .slt c8_i32_27 c0_i32_31
  let v84 : BitVec 32 := Scalar.extui v83
  let v85 : BitVec 32 := Scalar.subi v82 v84
  let v86 : BitVec 1 := Scalar.cmpi .ne v80 v85
  let v87 : BitVec 32 := Scalar.remsi v58 c8_i32_27
  let c0_i32_32 : BitVec 32 := 0#32
  let v88 : BitVec 1 := Scalar.cmpi .ne v87 c0_i32_32
  let v89 : BitVec 1 := Scalar.andi v86 v88
  let v75 : BitVec 32 := Scalar.divsi v58 c8_i32_27
  let c1_i32_33 : BitVec 32 := 1#32
  let v90 : BitVec 32 := Scalar.subi v75 c1_i32_33
  let v91 : BitVec 32 := Scalar.select v89 v90 v75
  let c8_i32_34 : BitVec 32 := 8#32
  let v92 : BitVec 32 := Scalar.muli v91 c8_i32_34
  let v93 : BitVec 32 := v92
  let c0_i32_37 : BitVec 32 := 0#32
  ![v93.toNat, 0]

def k0_chk2 (v58 : BitVec 32) : Prop :=
  (8 ∣ (k0_mult2 v58).toNat) ∧
  (∀ a, (k0_off7 v58) a + S88x128.size a ≤ S122968x128.size a)
theorem k0_mult2_dvd : ∀ (v58 : BitVec 32) (k0_hw2 : k0_chk2 v58), 8 ∣ (k0_mult2 v58).toNat := fun v58 k0_hw2 => k0_hw2.1
theorem k0_off7_inb : ∀ (v58 : BitVec 32) (k0_hw2 : k0_chk2 v58), ∀ a, (k0_off7 v58) a + S88x128.size a ≤ S122968x128.size a := fun v58 k0_hw2 => k0_hw2.2

def k0_off8 : Fin 1 → Nat :=
  let c1_i32_20 : BitVec 32 := 1#32
  let c4_i32_21 : BitVec 32 := 4#32
  let c0_i32_22 : BitVec 32 := 0#32
  let v65 : BitVec 1 := Scalar.cmpi .eq c4_i32_21 c0_i32_22
  let c1_i32_23 : BitVec 32 := 1#32
  let v66 : BitVec 32 := Scalar.select v65 c1_i32_23 c4_i32_21
  let v67 : BitVec 32 := Scalar.remsi c1_i32_20 v66
  let c0_i32_25 : BitVec 32 := 0#32
  let v69 : BitVec 1 := Scalar.cmpi .slt v67 c0_i32_25
  let c0_i32_26 : BitVec 32 := 0#32
  let v70 : BitVec 1 := Scalar.cmpi .slt v66 c0_i32_26
  let v71 : BitVec 1 := Scalar.xori v69 v70
  let c0_i32_24 : BitVec 32 := 0#32
  let v68 : BitVec 1 := Scalar.cmpi .ne v67 c0_i32_24
  let v72 : BitVec 1 := Scalar.andi v71 v68
  let v73 : BitVec 32 := Scalar.addi v67 v66
  let v74 : BitVec 32 := Scalar.select v72 v73 v67
  ![v74.toNat]
def k0_off9 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c48_i32_40 : BitVec 32 := 48#32
  let v101 : BitVec 32 := Scalar.muli v1 c48_i32_40
  let c2_i32 : BitVec 32 := 2#32
  let v102 : BitVec 32 := Scalar.addi v101 c2_i32
  let v103 : Index := Scalar.indexCast v102
  ![v103.toNat]
def k0_mult3 (v106 : BitVec 32) : BitVec 32 :=
  let c0_i32_50 : BitVec 32 := 0#32
  let v124 : BitVec 1 := Scalar.cmpi .sgt v106 c0_i32_50
  let v125 : BitVec 32 := Scalar.extui v124
  let c0_i32_51 : BitVec 32 := 0#32
  let v126 : BitVec 1 := Scalar.cmpi .slt v106 c0_i32_51
  let v127 : BitVec 32 := Scalar.extui v126
  let v128 : BitVec 32 := Scalar.subi v125 v127
  let c8_i32_49 : BitVec 32 := 8#32
  let c0_i32_52 : BitVec 32 := 0#32
  let v129 : BitVec 1 := Scalar.cmpi .sgt c8_i32_49 c0_i32_52
  let v130 : BitVec 32 := Scalar.extui v129
  let c0_i32_53 : BitVec 32 := 0#32
  let v131 : BitVec 1 := Scalar.cmpi .slt c8_i32_49 c0_i32_53
  let v132 : BitVec 32 := Scalar.extui v131
  let v133 : BitVec 32 := Scalar.subi v130 v132
  let v134 : BitVec 1 := Scalar.cmpi .ne v128 v133
  let v135 : BitVec 32 := Scalar.remsi v106 c8_i32_49
  let c0_i32_54 : BitVec 32 := 0#32
  let v136 : BitVec 1 := Scalar.cmpi .ne v135 c0_i32_54
  let v137 : BitVec 1 := Scalar.andi v134 v136
  let v123 : BitVec 32 := Scalar.divsi v106 c8_i32_49
  let c1_i32_55 : BitVec 32 := 1#32
  let v138 : BitVec 32 := Scalar.subi v123 c1_i32_55
  let v139 : BitVec 32 := Scalar.select v137 v138 v123
  let c8_i32_56 : BitVec 32 := 8#32
  let v140 : BitVec 32 := Scalar.muli v139 c8_i32_56
  v140

def k0_off10 : Fin 2 → Nat :=
  let c2_i32_42 : BitVec 32 := 2#32
  let c4_i32_43 : BitVec 32 := 4#32
  let c0_i32_44 : BitVec 32 := 0#32
  let v113 : BitVec 1 := Scalar.cmpi .eq c4_i32_43 c0_i32_44
  let c1_i32_45 : BitVec 32 := 1#32
  let v114 : BitVec 32 := Scalar.select v113 c1_i32_45 c4_i32_43
  let v115 : BitVec 32 := Scalar.remsi c2_i32_42 v114
  let c0_i32_47 : BitVec 32 := 0#32
  let v117 : BitVec 1 := Scalar.cmpi .slt v115 c0_i32_47
  let c0_i32_48 : BitVec 32 := 0#32
  let v118 : BitVec 1 := Scalar.cmpi .slt v114 c0_i32_48
  let v119 : BitVec 1 := Scalar.xori v117 v118
  let c0_i32_46 : BitVec 32 := 0#32
  let v116 : BitVec 1 := Scalar.cmpi .ne v115 c0_i32_46
  let v120 : BitVec 1 := Scalar.andi v119 v116
  let v121 : BitVec 32 := Scalar.addi v115 v114
  let v122 : BitVec 32 := Scalar.select v120 v121 v115
  let c88_i32_57 : BitVec 32 := 88#32
  let v142 : BitVec 32 := Scalar.muli v122 c88_i32_57
  let c0_i32_58 : BitVec 32 := 0#32
  ![v142.toNat, 0]
def k0_off11 (v106 : BitVec 32) : Fin 2 → Nat :=
  let c0_i32_50 : BitVec 32 := 0#32
  let v124 : BitVec 1 := Scalar.cmpi .sgt v106 c0_i32_50
  let v125 : BitVec 32 := Scalar.extui v124
  let c0_i32_51 : BitVec 32 := 0#32
  let v126 : BitVec 1 := Scalar.cmpi .slt v106 c0_i32_51
  let v127 : BitVec 32 := Scalar.extui v126
  let v128 : BitVec 32 := Scalar.subi v125 v127
  let c8_i32_49 : BitVec 32 := 8#32
  let c0_i32_52 : BitVec 32 := 0#32
  let v129 : BitVec 1 := Scalar.cmpi .sgt c8_i32_49 c0_i32_52
  let v130 : BitVec 32 := Scalar.extui v129
  let c0_i32_53 : BitVec 32 := 0#32
  let v131 : BitVec 1 := Scalar.cmpi .slt c8_i32_49 c0_i32_53
  let v132 : BitVec 32 := Scalar.extui v131
  let v133 : BitVec 32 := Scalar.subi v130 v132
  let v134 : BitVec 1 := Scalar.cmpi .ne v128 v133
  let v135 : BitVec 32 := Scalar.remsi v106 c8_i32_49
  let c0_i32_54 : BitVec 32 := 0#32
  let v136 : BitVec 1 := Scalar.cmpi .ne v135 c0_i32_54
  let v137 : BitVec 1 := Scalar.andi v134 v136
  let v123 : BitVec 32 := Scalar.divsi v106 c8_i32_49
  let c1_i32_55 : BitVec 32 := 1#32
  let v138 : BitVec 32 := Scalar.subi v123 c1_i32_55
  let v139 : BitVec 32 := Scalar.select v137 v138 v123
  let c8_i32_56 : BitVec 32 := 8#32
  let v140 : BitVec 32 := Scalar.muli v139 c8_i32_56
  let v141 : BitVec 32 := v140
  let c0_i32_59 : BitVec 32 := 0#32
  ![v141.toNat, 0]

def k0_chk3 (v106 : BitVec 32) : Prop :=
  (8 ∣ (k0_mult3 v106).toNat) ∧
  (∀ a, (k0_off11 v106) a + S88x128.size a ≤ S122968x128.size a)
theorem k0_mult3_dvd : ∀ (v106 : BitVec 32) (k0_hw3 : k0_chk3 v106), 8 ∣ (k0_mult3 v106).toNat := fun v106 k0_hw3 => k0_hw3.1
theorem k0_off11_inb : ∀ (v106 : BitVec 32) (k0_hw3 : k0_chk3 v106), ∀ a, (k0_off11 v106) a + S88x128.size a ≤ S122968x128.size a := fun v106 k0_hw3 => k0_hw3.2

def k0_off12 : Fin 1 → Nat :=
  let c2_i32_42 : BitVec 32 := 2#32
  let c4_i32_43 : BitVec 32 := 4#32
  let c0_i32_44 : BitVec 32 := 0#32
  let v113 : BitVec 1 := Scalar.cmpi .eq c4_i32_43 c0_i32_44
  let c1_i32_45 : BitVec 32 := 1#32
  let v114 : BitVec 32 := Scalar.select v113 c1_i32_45 c4_i32_43
  let v115 : BitVec 32 := Scalar.remsi c2_i32_42 v114
  let c0_i32_47 : BitVec 32 := 0#32
  let v117 : BitVec 1 := Scalar.cmpi .slt v115 c0_i32_47
  let c0_i32_48 : BitVec 32 := 0#32
  let v118 : BitVec 1 := Scalar.cmpi .slt v114 c0_i32_48
  let v119 : BitVec 1 := Scalar.xori v117 v118
  let c0_i32_46 : BitVec 32 := 0#32
  let v116 : BitVec 1 := Scalar.cmpi .ne v115 c0_i32_46
  let v120 : BitVec 1 := Scalar.andi v119 v116
  let v121 : BitVec 32 := Scalar.addi v115 v114
  let v122 : BitVec 32 := Scalar.select v120 v121 v115
  ![v122.toNat]
def k0_off13 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c48_i32_62 : BitVec 32 := 48#32
  let v149 : BitVec 32 := Scalar.muli v1 c48_i32_62
  let c3_i32 : BitVec 32 := 3#32
  let v150 : BitVec 32 := Scalar.addi v149 c3_i32
  let v151 : Index := Scalar.indexCast v150
  ![v151.toNat]
def k0_mult4 (v154 : BitVec 32) : BitVec 32 :=
  let c0_i32_72 : BitVec 32 := 0#32
  let v172 : BitVec 1 := Scalar.cmpi .sgt v154 c0_i32_72
  let v173 : BitVec 32 := Scalar.extui v172
  let c0_i32_73 : BitVec 32 := 0#32
  let v174 : BitVec 1 := Scalar.cmpi .slt v154 c0_i32_73
  let v175 : BitVec 32 := Scalar.extui v174
  let v176 : BitVec 32 := Scalar.subi v173 v175
  let c8_i32_71 : BitVec 32 := 8#32
  let c0_i32_74 : BitVec 32 := 0#32
  let v177 : BitVec 1 := Scalar.cmpi .sgt c8_i32_71 c0_i32_74
  let v178 : BitVec 32 := Scalar.extui v177
  let c0_i32_75 : BitVec 32 := 0#32
  let v179 : BitVec 1 := Scalar.cmpi .slt c8_i32_71 c0_i32_75
  let v180 : BitVec 32 := Scalar.extui v179
  let v181 : BitVec 32 := Scalar.subi v178 v180
  let v182 : BitVec 1 := Scalar.cmpi .ne v176 v181
  let v183 : BitVec 32 := Scalar.remsi v154 c8_i32_71
  let c0_i32_76 : BitVec 32 := 0#32
  let v184 : BitVec 1 := Scalar.cmpi .ne v183 c0_i32_76
  let v185 : BitVec 1 := Scalar.andi v182 v184
  let v171 : BitVec 32 := Scalar.divsi v154 c8_i32_71
  let c1_i32_77 : BitVec 32 := 1#32
  let v186 : BitVec 32 := Scalar.subi v171 c1_i32_77
  let v187 : BitVec 32 := Scalar.select v185 v186 v171
  let c8_i32_78 : BitVec 32 := 8#32
  let v188 : BitVec 32 := Scalar.muli v187 c8_i32_78
  v188

def k0_off14 : Fin 2 → Nat :=
  let c3_i32_64 : BitVec 32 := 3#32
  let c4_i32_65 : BitVec 32 := 4#32
  let c0_i32_66 : BitVec 32 := 0#32
  let v161 : BitVec 1 := Scalar.cmpi .eq c4_i32_65 c0_i32_66
  let c1_i32_67 : BitVec 32 := 1#32
  let v162 : BitVec 32 := Scalar.select v161 c1_i32_67 c4_i32_65
  let v163 : BitVec 32 := Scalar.remsi c3_i32_64 v162
  let c0_i32_69 : BitVec 32 := 0#32
  let v165 : BitVec 1 := Scalar.cmpi .slt v163 c0_i32_69
  let c0_i32_70 : BitVec 32 := 0#32
  let v166 : BitVec 1 := Scalar.cmpi .slt v162 c0_i32_70
  let v167 : BitVec 1 := Scalar.xori v165 v166
  let c0_i32_68 : BitVec 32 := 0#32
  let v164 : BitVec 1 := Scalar.cmpi .ne v163 c0_i32_68
  let v168 : BitVec 1 := Scalar.andi v167 v164
  let v169 : BitVec 32 := Scalar.addi v163 v162
  let v170 : BitVec 32 := Scalar.select v168 v169 v163
  let c88_i32_79 : BitVec 32 := 88#32
  let v190 : BitVec 32 := Scalar.muli v170 c88_i32_79
  let c0_i32_80 : BitVec 32 := 0#32
  ![v190.toNat, 0]
def k0_off15 (v154 : BitVec 32) : Fin 2 → Nat :=
  let c0_i32_72 : BitVec 32 := 0#32
  let v172 : BitVec 1 := Scalar.cmpi .sgt v154 c0_i32_72
  let v173 : BitVec 32 := Scalar.extui v172
  let c0_i32_73 : BitVec 32 := 0#32
  let v174 : BitVec 1 := Scalar.cmpi .slt v154 c0_i32_73
  let v175 : BitVec 32 := Scalar.extui v174
  let v176 : BitVec 32 := Scalar.subi v173 v175
  let c8_i32_71 : BitVec 32 := 8#32
  let c0_i32_74 : BitVec 32 := 0#32
  let v177 : BitVec 1 := Scalar.cmpi .sgt c8_i32_71 c0_i32_74
  let v178 : BitVec 32 := Scalar.extui v177
  let c0_i32_75 : BitVec 32 := 0#32
  let v179 : BitVec 1 := Scalar.cmpi .slt c8_i32_71 c0_i32_75
  let v180 : BitVec 32 := Scalar.extui v179
  let v181 : BitVec 32 := Scalar.subi v178 v180
  let v182 : BitVec 1 := Scalar.cmpi .ne v176 v181
  let v183 : BitVec 32 := Scalar.remsi v154 c8_i32_71
  let c0_i32_76 : BitVec 32 := 0#32
  let v184 : BitVec 1 := Scalar.cmpi .ne v183 c0_i32_76
  let v185 : BitVec 1 := Scalar.andi v182 v184
  let v171 : BitVec 32 := Scalar.divsi v154 c8_i32_71
  let c1_i32_77 : BitVec 32 := 1#32
  let v186 : BitVec 32 := Scalar.subi v171 c1_i32_77
  let v187 : BitVec 32 := Scalar.select v185 v186 v171
  let c8_i32_78 : BitVec 32 := 8#32
  let v188 : BitVec 32 := Scalar.muli v187 c8_i32_78
  let v189 : BitVec 32 := v188
  let c0_i32_81 : BitVec 32 := 0#32
  ![v189.toNat, 0]

def k0_chk4 (v154 : BitVec 32) : Prop :=
  (8 ∣ (k0_mult4 v154).toNat) ∧
  (∀ a, (k0_off15 v154) a + S88x128.size a ≤ S122968x128.size a)
theorem k0_mult4_dvd : ∀ (v154 : BitVec 32) (k0_hw4 : k0_chk4 v154), 8 ∣ (k0_mult4 v154).toNat := fun v154 k0_hw4 => k0_hw4.1
theorem k0_off15_inb : ∀ (v154 : BitVec 32) (k0_hw4 : k0_chk4 v154), ∀ a, (k0_off15 v154) a + S88x128.size a ≤ S122968x128.size a := fun v154 k0_hw4 => k0_hw4.2

def k0_off16 : Fin 1 → Nat :=
  let c3_i32_64 : BitVec 32 := 3#32
  let c4_i32_65 : BitVec 32 := 4#32
  let c0_i32_66 : BitVec 32 := 0#32
  let v161 : BitVec 1 := Scalar.cmpi .eq c4_i32_65 c0_i32_66
  let c1_i32_67 : BitVec 32 := 1#32
  let v162 : BitVec 32 := Scalar.select v161 c1_i32_67 c4_i32_65
  let v163 : BitVec 32 := Scalar.remsi c3_i32_64 v162
  let c0_i32_69 : BitVec 32 := 0#32
  let v165 : BitVec 1 := Scalar.cmpi .slt v163 c0_i32_69
  let c0_i32_70 : BitVec 32 := 0#32
  let v166 : BitVec 1 := Scalar.cmpi .slt v162 c0_i32_70
  let v167 : BitVec 1 := Scalar.xori v165 v166
  let c0_i32_68 : BitVec 32 := 0#32
  let v164 : BitVec 1 := Scalar.cmpi .ne v163 c0_i32_68
  let v168 : BitVec 1 := Scalar.andi v167 v164
  let v169 : BitVec 32 := Scalar.addi v163 v162
  let v170 : BitVec 32 := Scalar.select v168 v169 v163
  ![v170.toNat]
@[reducible] def k0_t1_loop : Scf.Loop 32 :=
  let c0_i32_84 : BitVec 32 := 0#32
  let c48_i32_85 : BitVec 32 := 48#32
  let v197 : BitVec 32 := Scalar.addi c0_i32_84 c48_i32_85
  let c1_i32_86 : BitVec 32 := 1#32
  ⟨c0_i32_84, v197, c1_i32_86⟩
def k0_off17 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c48_i32_91 : BitVec 32 := 48#32
  let v201 : BitVec 32 := Scalar.muli v1 c48_i32_91
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let v202 : BitVec 32 := Scalar.addi v201 v200
  let v203 : Index := Scalar.indexCast v202
  ![v203.toNat]
def k0_mult5 (v206 : BitVec 32) : BitVec 32 :=
  let c0_i32_100 : BitVec 32 := 0#32
  let v224 : BitVec 1 := Scalar.cmpi .sgt v206 c0_i32_100
  let v225 : BitVec 32 := Scalar.extui v224
  let c0_i32_101 : BitVec 32 := 0#32
  let v226 : BitVec 1 := Scalar.cmpi .slt v206 c0_i32_101
  let v227 : BitVec 32 := Scalar.extui v226
  let v228 : BitVec 32 := Scalar.subi v225 v227
  let c8_i32_99 : BitVec 32 := 8#32
  let c0_i32_102 : BitVec 32 := 0#32
  let v229 : BitVec 1 := Scalar.cmpi .sgt c8_i32_99 c0_i32_102
  let v230 : BitVec 32 := Scalar.extui v229
  let c0_i32_103 : BitVec 32 := 0#32
  let v231 : BitVec 1 := Scalar.cmpi .slt c8_i32_99 c0_i32_103
  let v232 : BitVec 32 := Scalar.extui v231
  let v233 : BitVec 32 := Scalar.subi v230 v232
  let v234 : BitVec 1 := Scalar.cmpi .ne v228 v233
  let v235 : BitVec 32 := Scalar.remsi v206 c8_i32_99
  let c0_i32_104 : BitVec 32 := 0#32
  let v236 : BitVec 1 := Scalar.cmpi .ne v235 c0_i32_104
  let v237 : BitVec 1 := Scalar.andi v234 v236
  let v223 : BitVec 32 := Scalar.divsi v206 c8_i32_99
  let c1_i32_105 : BitVec 32 := 1#32
  let v238 : BitVec 32 := Scalar.subi v223 c1_i32_105
  let v239 : BitVec 32 := Scalar.select v237 v238 v223
  let c8_i32_106 : BitVec 32 := 8#32
  let v240 : BitVec 32 := Scalar.muli v239 c8_i32_106
  v240

def k0_off18 (k0_t1 : Fin k0_t1_loop.trips) : Fin 2 → Nat :=
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let c4_i32_93 : BitVec 32 := 4#32
  let c0_i32_94 : BitVec 32 := 0#32
  let v213 : BitVec 1 := Scalar.cmpi .eq c4_i32_93 c0_i32_94
  let c1_i32_95 : BitVec 32 := 1#32
  let v214 : BitVec 32 := Scalar.select v213 c1_i32_95 c4_i32_93
  let v215 : BitVec 32 := Scalar.remsi v200 v214
  let c0_i32_97 : BitVec 32 := 0#32
  let v217 : BitVec 1 := Scalar.cmpi .slt v215 c0_i32_97
  let c0_i32_98 : BitVec 32 := 0#32
  let v218 : BitVec 1 := Scalar.cmpi .slt v214 c0_i32_98
  let v219 : BitVec 1 := Scalar.xori v217 v218
  let c0_i32_96 : BitVec 32 := 0#32
  let v216 : BitVec 1 := Scalar.cmpi .ne v215 c0_i32_96
  let v220 : BitVec 1 := Scalar.andi v219 v216
  let v221 : BitVec 32 := Scalar.addi v215 v214
  let v222 : BitVec 32 := Scalar.select v220 v221 v215
  let c88_i32_107 : BitVec 32 := 88#32
  let v242 : BitVec 32 := Scalar.muli v222 c88_i32_107
  let c0_i32_108 : BitVec 32 := 0#32
  ![v242.toNat, 0]
def k0_off19 (v206 : BitVec 32) : Fin 2 → Nat :=
  let c0_i32_100 : BitVec 32 := 0#32
  let v224 : BitVec 1 := Scalar.cmpi .sgt v206 c0_i32_100
  let v225 : BitVec 32 := Scalar.extui v224
  let c0_i32_101 : BitVec 32 := 0#32
  let v226 : BitVec 1 := Scalar.cmpi .slt v206 c0_i32_101
  let v227 : BitVec 32 := Scalar.extui v226
  let v228 : BitVec 32 := Scalar.subi v225 v227
  let c8_i32_99 : BitVec 32 := 8#32
  let c0_i32_102 : BitVec 32 := 0#32
  let v229 : BitVec 1 := Scalar.cmpi .sgt c8_i32_99 c0_i32_102
  let v230 : BitVec 32 := Scalar.extui v229
  let c0_i32_103 : BitVec 32 := 0#32
  let v231 : BitVec 1 := Scalar.cmpi .slt c8_i32_99 c0_i32_103
  let v232 : BitVec 32 := Scalar.extui v231
  let v233 : BitVec 32 := Scalar.subi v230 v232
  let v234 : BitVec 1 := Scalar.cmpi .ne v228 v233
  let v235 : BitVec 32 := Scalar.remsi v206 c8_i32_99
  let c0_i32_104 : BitVec 32 := 0#32
  let v236 : BitVec 1 := Scalar.cmpi .ne v235 c0_i32_104
  let v237 : BitVec 1 := Scalar.andi v234 v236
  let v223 : BitVec 32 := Scalar.divsi v206 c8_i32_99
  let c1_i32_105 : BitVec 32 := 1#32
  let v238 : BitVec 32 := Scalar.subi v223 c1_i32_105
  let v239 : BitVec 32 := Scalar.select v237 v238 v223
  let c8_i32_106 : BitVec 32 := 8#32
  let v240 : BitVec 32 := Scalar.muli v239 c8_i32_106
  let v241 : BitVec 32 := v240
  let c0_i32_109 : BitVec 32 := 0#32
  ![v241.toNat, 0]

def k0_chk5 (v206 : BitVec 32) : Prop :=
  (8 ∣ (k0_mult5 v206).toNat) ∧
  (∀ a, (k0_off19 v206) a + S88x128.size a ≤ S122968x128.size a)
theorem k0_mult5_dvd : ∀ (v206 : BitVec 32) (k0_hw5 : k0_chk5 v206), 8 ∣ (k0_mult5 v206).toNat := fun v206 k0_hw5 => k0_hw5.1
theorem k0_off19_inb : ∀ (v206 : BitVec 32) (k0_hw5 : k0_chk5 v206), ∀ a, (k0_off19 v206) a + S88x128.size a ≤ S122968x128.size a := fun v206 k0_hw5 => k0_hw5.2

def k0_off20 (k0_t1 : Fin k0_t1_loop.trips) : Fin 1 → Nat :=
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let c4_i32_93 : BitVec 32 := 4#32
  let c0_i32_94 : BitVec 32 := 0#32
  let v213 : BitVec 1 := Scalar.cmpi .eq c4_i32_93 c0_i32_94
  let c1_i32_95 : BitVec 32 := 1#32
  let v214 : BitVec 32 := Scalar.select v213 c1_i32_95 c4_i32_93
  let v215 : BitVec 32 := Scalar.remsi v200 v214
  let c0_i32_97 : BitVec 32 := 0#32
  let v217 : BitVec 1 := Scalar.cmpi .slt v215 c0_i32_97
  let c0_i32_98 : BitVec 32 := 0#32
  let v218 : BitVec 1 := Scalar.cmpi .slt v214 c0_i32_98
  let v219 : BitVec 1 := Scalar.xori v217 v218
  let c0_i32_96 : BitVec 32 := 0#32
  let v216 : BitVec 1 := Scalar.cmpi .ne v215 c0_i32_96
  let v220 : BitVec 1 := Scalar.andi v219 v216
  let v221 : BitVec 32 := Scalar.addi v215 v214
  let v222 : BitVec 32 := Scalar.select v220 v221 v215
  ![v222.toNat]
def k0_off21 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c48_i32_112 : BitVec 32 := 48#32
  let v249 : BitVec 32 := Scalar.muli v1 c48_i32_112
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let v250 : BitVec 32 := Scalar.addi v249 v200
  let v251 : Index := Scalar.indexCast v250
  ![v251.toNat]
@[reducible] def k0_t2_loop (k0_t1 : Fin k0_t1_loop.trips) (v254 : BitVec 32) (v256 : BitVec 32) (v258 : BitVec 32) : Scf.Loop 32 :=
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let c4_i32_114 : BitVec 32 := 4#32
  let c0_i32_115 : BitVec 32 := 0#32
  let v261 : BitVec 1 := Scalar.cmpi .eq c4_i32_114 c0_i32_115
  let c1_i32_116 : BitVec 32 := 1#32
  let v262 : BitVec 32 := Scalar.select v261 c1_i32_116 c4_i32_114
  let v263 : BitVec 32 := Scalar.remsi v200 v262
  let c0_i32_118 : BitVec 32 := 0#32
  let v265 : BitVec 1 := Scalar.cmpi .slt v263 c0_i32_118
  let c0_i32_119 : BitVec 32 := 0#32
  let v266 : BitVec 1 := Scalar.cmpi .slt v262 c0_i32_119
  let v267 : BitVec 1 := Scalar.xori v265 v266
  let c0_i32_117 : BitVec 32 := 0#32
  let v264 : BitVec 1 := Scalar.cmpi .ne v263 c0_i32_117
  let v268 : BitVec 1 := Scalar.andi v267 v264
  let v269 : BitVec 32 := Scalar.addi v263 v262
  let v270 : BitVec 32 := Scalar.select v268 v269 v263
  let c88_i32_120 : BitVec 32 := 88#32
  let v271 : BitVec 32 := Scalar.muli v270 c88_i32_120
  let c8_i32_121 : BitVec 32 := 8#32
  let c0_i32_122 : BitVec 32 := 0#32
  let v272 : BitVec 1 := Scalar.cmpi .eq c8_i32_121 c0_i32_122
  let c1_i32_123 : BitVec 32 := 1#32
  let v273 : BitVec 32 := Scalar.select v272 c1_i32_123 c8_i32_121
  let v274 : BitVec 32 := Scalar.remsi v254 v273
  let c0_i32_125 : BitVec 32 := 0#32
  let v276 : BitVec 1 := Scalar.cmpi .slt v274 c0_i32_125
  let c0_i32_126 : BitVec 32 := 0#32
  let v277 : BitVec 1 := Scalar.cmpi .slt v273 c0_i32_126
  let v278 : BitVec 1 := Scalar.xori v276 v277
  let c0_i32_124 : BitVec 32 := 0#32
  let v275 : BitVec 1 := Scalar.cmpi .ne v274 c0_i32_124
  let v279 : BitVec 1 := Scalar.andi v278 v275
  let v280 : BitVec 32 := Scalar.addi v274 v273
  let v281 : BitVec 32 := Scalar.select v279 v280 v274
  let v282 : BitVec 32 := Scalar.addi v271 v281
  let c80_i32_113 : BitVec 32 := 80#32
  let v259 : BitVec 32 := Scalar.addi v258 c80_i32_113
  let v260 : BitVec 32 := Scalar.minsi v256 v259
  let v283 : BitVec 32 := Scalar.subi v260 v254
  let v284 : BitVec 32 := Scalar.addi v282 v283
  let v285 : BitVec 32 := Scalar.subi v284 v282
  let c1_i32_127 : BitVec 32 := 1#32
  let v287 : BitVec 32 := Scalar.divsi v285 c1_i32_127
  let v288 : BitVec 32 := Scalar.muli v287 c1_i32_127
  let v289 : BitVec 32 := Scalar.addi v282 v288
  let c1_i32_128 : BitVec 32 := 1#32
  ⟨v282, v289, c1_i32_128⟩

def k0_chk7 (v441 : IVec S16 32) (v443 : IVec S16 32) : Prop :=
  (∀ a x, ((![v441, v443] : Fin 2 → IVec S16 32) a x).toNat < S352x128.size a)
theorem k0_idx1_inb : ∀ (v441 : IVec S16 32) (v443 : IVec S16 32) (k0_hw7 : k0_chk7 v441 v443), ∀ a x, ((![v441, v443] : Fin 2 → IVec S16 32) a x).toNat < S352x128.size a := fun v441 v443 k0_hw7 => k0_hw7

def k0_chk8 (v441 : IVec S16 32) (v447 : IVec S16 32) : Prop :=
  (∀ a x, ((![v441, v447] : Fin 2 → IVec S16 32) a x).toNat < S352x128.size a)
theorem k0_idx2_inb : ∀ (v441 : IVec S16 32) (v447 : IVec S16 32) (k0_hw8 : k0_chk8 v441 v447), ∀ a x, ((![v441, v447] : Fin 2 → IVec S16 32) a x).toNat < S352x128.size a := fun v441 v447 k0_hw8 => k0_hw8
def k0_off22 (k0_t1 : Fin k0_t1_loop.trips) (v254 : BitVec 32) (v256 : BitVec 32) (v258 : BitVec 32) (k0_t2 : Fin (k0_t2_loop k0_t1 v254 v256 v258).trips) : Fin 2 → Nat :=
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let c4_i32_114 : BitVec 32 := 4#32
  let c0_i32_115 : BitVec 32 := 0#32
  let v261 : BitVec 1 := Scalar.cmpi .eq c4_i32_114 c0_i32_115
  let c1_i32_116 : BitVec 32 := 1#32
  let v262 : BitVec 32 := Scalar.select v261 c1_i32_116 c4_i32_114
  let v263 : BitVec 32 := Scalar.remsi v200 v262
  let c0_i32_118 : BitVec 32 := 0#32
  let v265 : BitVec 1 := Scalar.cmpi .slt v263 c0_i32_118
  let c0_i32_119 : BitVec 32 := 0#32
  let v266 : BitVec 1 := Scalar.cmpi .slt v262 c0_i32_119
  let v267 : BitVec 1 := Scalar.xori v265 v266
  let c0_i32_117 : BitVec 32 := 0#32
  let v264 : BitVec 1 := Scalar.cmpi .ne v263 c0_i32_117
  let v268 : BitVec 1 := Scalar.andi v267 v264
  let v269 : BitVec 32 := Scalar.addi v263 v262
  let v270 : BitVec 32 := Scalar.select v268 v269 v263
  let c88_i32_120 : BitVec 32 := 88#32
  let v271 : BitVec 32 := Scalar.muli v270 c88_i32_120
  let c8_i32_121 : BitVec 32 := 8#32
  let c0_i32_122 : BitVec 32 := 0#32
  let v272 : BitVec 1 := Scalar.cmpi .eq c8_i32_121 c0_i32_122
  let c1_i32_123 : BitVec 32 := 1#32
  let v273 : BitVec 32 := Scalar.select v272 c1_i32_123 c8_i32_121
  let v274 : BitVec 32 := Scalar.remsi v254 v273
  let c0_i32_125 : BitVec 32 := 0#32
  let v276 : BitVec 1 := Scalar.cmpi .slt v274 c0_i32_125
  let c0_i32_126 : BitVec 32 := 0#32
  let v277 : BitVec 1 := Scalar.cmpi .slt v273 c0_i32_126
  let v278 : BitVec 1 := Scalar.xori v276 v277
  let c0_i32_124 : BitVec 32 := 0#32
  let v275 : BitVec 1 := Scalar.cmpi .ne v274 c0_i32_124
  let v279 : BitVec 1 := Scalar.andi v278 v275
  let v280 : BitVec 32 := Scalar.addi v274 v273
  let v281 : BitVec 32 := Scalar.select v279 v280 v274
  let v282 : BitVec 32 := Scalar.addi v271 v281
  let c1_i32_128 : BitVec 32 := 1#32
  let arg10 : BitVec 32 := Scf.iv v282 c1_i32_128 k0_t2
  let v451 : Index := Scalar.indexCast arg10
  let c0 : Index := 0#32
  ![v451.toNat, 0]
def k0_off23 (k0_t1 : Fin k0_t1_loop.trips) (v254 : BitVec 32) (v256 : BitVec 32) (v258 : BitVec 32) (k0_t2 : Fin (k0_t2_loop k0_t1 v254 v256 v258).trips) : Fin 2 → Nat :=
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let c4_i32_114 : BitVec 32 := 4#32
  let c0_i32_115 : BitVec 32 := 0#32
  let v261 : BitVec 1 := Scalar.cmpi .eq c4_i32_114 c0_i32_115
  let c1_i32_116 : BitVec 32 := 1#32
  let v262 : BitVec 32 := Scalar.select v261 c1_i32_116 c4_i32_114
  let v263 : BitVec 32 := Scalar.remsi v200 v262
  let c0_i32_118 : BitVec 32 := 0#32
  let v265 : BitVec 1 := Scalar.cmpi .slt v263 c0_i32_118
  let c0_i32_119 : BitVec 32 := 0#32
  let v266 : BitVec 1 := Scalar.cmpi .slt v262 c0_i32_119
  let v267 : BitVec 1 := Scalar.xori v265 v266
  let c0_i32_117 : BitVec 32 := 0#32
  let v264 : BitVec 1 := Scalar.cmpi .ne v263 c0_i32_117
  let v268 : BitVec 1 := Scalar.andi v267 v264
  let v269 : BitVec 32 := Scalar.addi v263 v262
  let v270 : BitVec 32 := Scalar.select v268 v269 v263
  let c88_i32_120 : BitVec 32 := 88#32
  let v271 : BitVec 32 := Scalar.muli v270 c88_i32_120
  let c8_i32_121 : BitVec 32 := 8#32
  let c0_i32_122 : BitVec 32 := 0#32
  let v272 : BitVec 1 := Scalar.cmpi .eq c8_i32_121 c0_i32_122
  let c1_i32_123 : BitVec 32 := 1#32
  let v273 : BitVec 32 := Scalar.select v272 c1_i32_123 c8_i32_121
  let v274 : BitVec 32 := Scalar.remsi v254 v273
  let c0_i32_125 : BitVec 32 := 0#32
  let v276 : BitVec 1 := Scalar.cmpi .slt v274 c0_i32_125
  let c0_i32_126 : BitVec 32 := 0#32
  let v277 : BitVec 1 := Scalar.cmpi .slt v273 c0_i32_126
  let v278 : BitVec 1 := Scalar.xori v276 v277
  let c0_i32_124 : BitVec 32 := 0#32
  let v275 : BitVec 1 := Scalar.cmpi .ne v274 c0_i32_124
  let v279 : BitVec 1 := Scalar.andi v278 v275
  let v280 : BitVec 32 := Scalar.addi v274 v273
  let v281 : BitVec 32 := Scalar.select v279 v280 v274
  let v282 : BitVec 32 := Scalar.addi v271 v281
  let c1_i32_128 : BitVec 32 := 1#32
  let arg10 : BitVec 32 := Scf.iv v282 c1_i32_128 k0_t2
  let v481 : Index := Scalar.indexCast arg10
  let c16 : Index := 16#32
  ![v481.toNat, 16]
def k0_off24 (k0_t1 : Fin k0_t1_loop.trips) (v254 : BitVec 32) (v256 : BitVec 32) (v258 : BitVec 32) (k0_t2 : Fin (k0_t2_loop k0_t1 v254 v256 v258).trips) : Fin 2 → Nat :=
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let c4_i32_114 : BitVec 32 := 4#32
  let c0_i32_115 : BitVec 32 := 0#32
  let v261 : BitVec 1 := Scalar.cmpi .eq c4_i32_114 c0_i32_115
  let c1_i32_116 : BitVec 32 := 1#32
  let v262 : BitVec 32 := Scalar.select v261 c1_i32_116 c4_i32_114
  let v263 : BitVec 32 := Scalar.remsi v200 v262
  let c0_i32_118 : BitVec 32 := 0#32
  let v265 : BitVec 1 := Scalar.cmpi .slt v263 c0_i32_118
  let c0_i32_119 : BitVec 32 := 0#32
  let v266 : BitVec 1 := Scalar.cmpi .slt v262 c0_i32_119
  let v267 : BitVec 1 := Scalar.xori v265 v266
  let c0_i32_117 : BitVec 32 := 0#32
  let v264 : BitVec 1 := Scalar.cmpi .ne v263 c0_i32_117
  let v268 : BitVec 1 := Scalar.andi v267 v264
  let v269 : BitVec 32 := Scalar.addi v263 v262
  let v270 : BitVec 32 := Scalar.select v268 v269 v263
  let c88_i32_120 : BitVec 32 := 88#32
  let v271 : BitVec 32 := Scalar.muli v270 c88_i32_120
  let c8_i32_121 : BitVec 32 := 8#32
  let c0_i32_122 : BitVec 32 := 0#32
  let v272 : BitVec 1 := Scalar.cmpi .eq c8_i32_121 c0_i32_122
  let c1_i32_123 : BitVec 32 := 1#32
  let v273 : BitVec 32 := Scalar.select v272 c1_i32_123 c8_i32_121
  let v274 : BitVec 32 := Scalar.remsi v254 v273
  let c0_i32_125 : BitVec 32 := 0#32
  let v276 : BitVec 1 := Scalar.cmpi .slt v274 c0_i32_125
  let c0_i32_126 : BitVec 32 := 0#32
  let v277 : BitVec 1 := Scalar.cmpi .slt v273 c0_i32_126
  let v278 : BitVec 1 := Scalar.xori v276 v277
  let c0_i32_124 : BitVec 32 := 0#32
  let v275 : BitVec 1 := Scalar.cmpi .ne v274 c0_i32_124
  let v279 : BitVec 1 := Scalar.andi v278 v275
  let v280 : BitVec 32 := Scalar.addi v274 v273
  let v281 : BitVec 32 := Scalar.select v279 v280 v274
  let v282 : BitVec 32 := Scalar.addi v271 v281
  let c1_i32_128 : BitVec 32 := 1#32
  let arg10 : BitVec 32 := Scf.iv v282 c1_i32_128 k0_t2
  let v511 : Index := Scalar.indexCast arg10
  let c32 : Index := 32#32
  ![v511.toNat, 32]
def k0_off25 (k0_t1 : Fin k0_t1_loop.trips) (v254 : BitVec 32) (v256 : BitVec 32) (v258 : BitVec 32) (k0_t2 : Fin (k0_t2_loop k0_t1 v254 v256 v258).trips) : Fin 2 → Nat :=
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let c4_i32_114 : BitVec 32 := 4#32
  let c0_i32_115 : BitVec 32 := 0#32
  let v261 : BitVec 1 := Scalar.cmpi .eq c4_i32_114 c0_i32_115
  let c1_i32_116 : BitVec 32 := 1#32
  let v262 : BitVec 32 := Scalar.select v261 c1_i32_116 c4_i32_114
  let v263 : BitVec 32 := Scalar.remsi v200 v262
  let c0_i32_118 : BitVec 32 := 0#32
  let v265 : BitVec 1 := Scalar.cmpi .slt v263 c0_i32_118
  let c0_i32_119 : BitVec 32 := 0#32
  let v266 : BitVec 1 := Scalar.cmpi .slt v262 c0_i32_119
  let v267 : BitVec 1 := Scalar.xori v265 v266
  let c0_i32_117 : BitVec 32 := 0#32
  let v264 : BitVec 1 := Scalar.cmpi .ne v263 c0_i32_117
  let v268 : BitVec 1 := Scalar.andi v267 v264
  let v269 : BitVec 32 := Scalar.addi v263 v262
  let v270 : BitVec 32 := Scalar.select v268 v269 v263
  let c88_i32_120 : BitVec 32 := 88#32
  let v271 : BitVec 32 := Scalar.muli v270 c88_i32_120
  let c8_i32_121 : BitVec 32 := 8#32
  let c0_i32_122 : BitVec 32 := 0#32
  let v272 : BitVec 1 := Scalar.cmpi .eq c8_i32_121 c0_i32_122
  let c1_i32_123 : BitVec 32 := 1#32
  let v273 : BitVec 32 := Scalar.select v272 c1_i32_123 c8_i32_121
  let v274 : BitVec 32 := Scalar.remsi v254 v273
  let c0_i32_125 : BitVec 32 := 0#32
  let v276 : BitVec 1 := Scalar.cmpi .slt v274 c0_i32_125
  let c0_i32_126 : BitVec 32 := 0#32
  let v277 : BitVec 1 := Scalar.cmpi .slt v273 c0_i32_126
  let v278 : BitVec 1 := Scalar.xori v276 v277
  let c0_i32_124 : BitVec 32 := 0#32
  let v275 : BitVec 1 := Scalar.cmpi .ne v274 c0_i32_124
  let v279 : BitVec 1 := Scalar.andi v278 v275
  let v280 : BitVec 32 := Scalar.addi v274 v273
  let v281 : BitVec 32 := Scalar.select v279 v280 v274
  let v282 : BitVec 32 := Scalar.addi v271 v281
  let c1_i32_128 : BitVec 32 := 1#32
  let arg10 : BitVec 32 := Scf.iv v282 c1_i32_128 k0_t2
  let v541 : Index := Scalar.indexCast arg10
  let c48 : Index := 48#32
  ![v541.toNat, 48]
@[reducible] def k0_t3_loop (k0_t1 : Fin k0_t1_loop.trips) (v254 : BitVec 32) (v256 : BitVec 32) (v258 : BitVec 32) : Scf.Loop 32 :=
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let c4_i32_114 : BitVec 32 := 4#32
  let c0_i32_115 : BitVec 32 := 0#32
  let v261 : BitVec 1 := Scalar.cmpi .eq c4_i32_114 c0_i32_115
  let c1_i32_116 : BitVec 32 := 1#32
  let v262 : BitVec 32 := Scalar.select v261 c1_i32_116 c4_i32_114
  let v263 : BitVec 32 := Scalar.remsi v200 v262
  let c0_i32_118 : BitVec 32 := 0#32
  let v265 : BitVec 1 := Scalar.cmpi .slt v263 c0_i32_118
  let c0_i32_119 : BitVec 32 := 0#32
  let v266 : BitVec 1 := Scalar.cmpi .slt v262 c0_i32_119
  let v267 : BitVec 1 := Scalar.xori v265 v266
  let c0_i32_117 : BitVec 32 := 0#32
  let v264 : BitVec 1 := Scalar.cmpi .ne v263 c0_i32_117
  let v268 : BitVec 1 := Scalar.andi v267 v264
  let v269 : BitVec 32 := Scalar.addi v263 v262
  let v270 : BitVec 32 := Scalar.select v268 v269 v263
  let c88_i32_120 : BitVec 32 := 88#32
  let v271 : BitVec 32 := Scalar.muli v270 c88_i32_120
  let c8_i32_121 : BitVec 32 := 8#32
  let c0_i32_122 : BitVec 32 := 0#32
  let v272 : BitVec 1 := Scalar.cmpi .eq c8_i32_121 c0_i32_122
  let c1_i32_123 : BitVec 32 := 1#32
  let v273 : BitVec 32 := Scalar.select v272 c1_i32_123 c8_i32_121
  let v274 : BitVec 32 := Scalar.remsi v254 v273
  let c0_i32_125 : BitVec 32 := 0#32
  let v276 : BitVec 1 := Scalar.cmpi .slt v274 c0_i32_125
  let c0_i32_126 : BitVec 32 := 0#32
  let v277 : BitVec 1 := Scalar.cmpi .slt v273 c0_i32_126
  let v278 : BitVec 1 := Scalar.xori v276 v277
  let c0_i32_124 : BitVec 32 := 0#32
  let v275 : BitVec 1 := Scalar.cmpi .ne v274 c0_i32_124
  let v279 : BitVec 1 := Scalar.andi v278 v275
  let v280 : BitVec 32 := Scalar.addi v274 v273
  let v281 : BitVec 32 := Scalar.select v279 v280 v274
  let v282 : BitVec 32 := Scalar.addi v271 v281
  let c80_i32_113 : BitVec 32 := 80#32
  let v259 : BitVec 32 := Scalar.addi v258 c80_i32_113
  let v260 : BitVec 32 := Scalar.minsi v256 v259
  let v283 : BitVec 32 := Scalar.subi v260 v254
  let v284 : BitVec 32 := Scalar.addi v282 v283
  let v285 : BitVec 32 := Scalar.subi v284 v282
  let c1_i32_127 : BitVec 32 := 1#32
  let v287 : BitVec 32 := Scalar.divsi v285 c1_i32_127
  let v288 : BitVec 32 := Scalar.muli v287 c1_i32_127
  let v289 : BitVec 32 := Scalar.addi v282 v288
  let v286 : BitVec 32 := Scalar.addi v282 v285
  let c1_i32_129 : BitVec 32 := 1#32
  ⟨v289, v286, c1_i32_129⟩

def k0_chk9 (v441 : IVec S16 32) (v443 : IVec S16 32) : Prop :=
  (∀ a x, ((![v441, v443] : Fin 2 → IVec S16 32) a x).toNat < S352x128.size a)
theorem k0_idx3_inb : ∀ (v441 : IVec S16 32) (v443 : IVec S16 32) (k0_hw9 : k0_chk9 v441 v443), ∀ a x, ((![v441, v443] : Fin 2 → IVec S16 32) a x).toNat < S352x128.size a := fun v441 v443 k0_hw9 => k0_hw9

def k0_chk10 (v441 : IVec S16 32) (v447 : IVec S16 32) : Prop :=
  (∀ a x, ((![v441, v447] : Fin 2 → IVec S16 32) a x).toNat < S352x128.size a)
theorem k0_idx4_inb : ∀ (v441 : IVec S16 32) (v447 : IVec S16 32) (k0_hw10 : k0_chk10 v441 v447), ∀ a x, ((![v441, v447] : Fin 2 → IVec S16 32) a x).toNat < S352x128.size a := fun v441 v447 k0_hw10 => k0_hw10
def k0_off26 (k0_t1 : Fin k0_t1_loop.trips) (v254 : BitVec 32) (v256 : BitVec 32) (v258 : BitVec 32) (k0_t3 : Fin (k0_t3_loop k0_t1 v254 v256 v258).trips) : Fin 2 → Nat :=
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let c4_i32_114 : BitVec 32 := 4#32
  let c0_i32_115 : BitVec 32 := 0#32
  let v261 : BitVec 1 := Scalar.cmpi .eq c4_i32_114 c0_i32_115
  let c1_i32_116 : BitVec 32 := 1#32
  let v262 : BitVec 32 := Scalar.select v261 c1_i32_116 c4_i32_114
  let v263 : BitVec 32 := Scalar.remsi v200 v262
  let c0_i32_118 : BitVec 32 := 0#32
  let v265 : BitVec 1 := Scalar.cmpi .slt v263 c0_i32_118
  let c0_i32_119 : BitVec 32 := 0#32
  let v266 : BitVec 1 := Scalar.cmpi .slt v262 c0_i32_119
  let v267 : BitVec 1 := Scalar.xori v265 v266
  let c0_i32_117 : BitVec 32 := 0#32
  let v264 : BitVec 1 := Scalar.cmpi .ne v263 c0_i32_117
  let v268 : BitVec 1 := Scalar.andi v267 v264
  let v269 : BitVec 32 := Scalar.addi v263 v262
  let v270 : BitVec 32 := Scalar.select v268 v269 v263
  let c88_i32_120 : BitVec 32 := 88#32
  let v271 : BitVec 32 := Scalar.muli v270 c88_i32_120
  let c8_i32_121 : BitVec 32 := 8#32
  let c0_i32_122 : BitVec 32 := 0#32
  let v272 : BitVec 1 := Scalar.cmpi .eq c8_i32_121 c0_i32_122
  let c1_i32_123 : BitVec 32 := 1#32
  let v273 : BitVec 32 := Scalar.select v272 c1_i32_123 c8_i32_121
  let v274 : BitVec 32 := Scalar.remsi v254 v273
  let c0_i32_125 : BitVec 32 := 0#32
  let v276 : BitVec 1 := Scalar.cmpi .slt v274 c0_i32_125
  let c0_i32_126 : BitVec 32 := 0#32
  let v277 : BitVec 1 := Scalar.cmpi .slt v273 c0_i32_126
  let v278 : BitVec 1 := Scalar.xori v276 v277
  let c0_i32_124 : BitVec 32 := 0#32
  let v275 : BitVec 1 := Scalar.cmpi .ne v274 c0_i32_124
  let v279 : BitVec 1 := Scalar.andi v278 v275
  let v280 : BitVec 32 := Scalar.addi v274 v273
  let v281 : BitVec 32 := Scalar.select v279 v280 v274
  let v282 : BitVec 32 := Scalar.addi v271 v281
  let c80_i32_113 : BitVec 32 := 80#32
  let v259 : BitVec 32 := Scalar.addi v258 c80_i32_113
  let v260 : BitVec 32 := Scalar.minsi v256 v259
  let v283 : BitVec 32 := Scalar.subi v260 v254
  let v284 : BitVec 32 := Scalar.addi v282 v283
  let v285 : BitVec 32 := Scalar.subi v284 v282
  let c1_i32_127 : BitVec 32 := 1#32
  let v287 : BitVec 32 := Scalar.divsi v285 c1_i32_127
  let v288 : BitVec 32 := Scalar.muli v287 c1_i32_127
  let v289 : BitVec 32 := Scalar.addi v282 v288
  let c1_i32_129 : BitVec 32 := 1#32
  let arg10 : BitVec 32 := Scf.iv v289 c1_i32_129 k0_t3
  let v451 : Index := Scalar.indexCast arg10
  let c0 : Index := 0#32
  ![v451.toNat, 0]
def k0_off27 (k0_t1 : Fin k0_t1_loop.trips) (v254 : BitVec 32) (v256 : BitVec 32) (v258 : BitVec 32) (k0_t3 : Fin (k0_t3_loop k0_t1 v254 v256 v258).trips) : Fin 2 → Nat :=
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let c4_i32_114 : BitVec 32 := 4#32
  let c0_i32_115 : BitVec 32 := 0#32
  let v261 : BitVec 1 := Scalar.cmpi .eq c4_i32_114 c0_i32_115
  let c1_i32_116 : BitVec 32 := 1#32
  let v262 : BitVec 32 := Scalar.select v261 c1_i32_116 c4_i32_114
  let v263 : BitVec 32 := Scalar.remsi v200 v262
  let c0_i32_118 : BitVec 32 := 0#32
  let v265 : BitVec 1 := Scalar.cmpi .slt v263 c0_i32_118
  let c0_i32_119 : BitVec 32 := 0#32
  let v266 : BitVec 1 := Scalar.cmpi .slt v262 c0_i32_119
  let v267 : BitVec 1 := Scalar.xori v265 v266
  let c0_i32_117 : BitVec 32 := 0#32
  let v264 : BitVec 1 := Scalar.cmpi .ne v263 c0_i32_117
  let v268 : BitVec 1 := Scalar.andi v267 v264
  let v269 : BitVec 32 := Scalar.addi v263 v262
  let v270 : BitVec 32 := Scalar.select v268 v269 v263
  let c88_i32_120 : BitVec 32 := 88#32
  let v271 : BitVec 32 := Scalar.muli v270 c88_i32_120
  let c8_i32_121 : BitVec 32 := 8#32
  let c0_i32_122 : BitVec 32 := 0#32
  let v272 : BitVec 1 := Scalar.cmpi .eq c8_i32_121 c0_i32_122
  let c1_i32_123 : BitVec 32 := 1#32
  let v273 : BitVec 32 := Scalar.select v272 c1_i32_123 c8_i32_121
  let v274 : BitVec 32 := Scalar.remsi v254 v273
  let c0_i32_125 : BitVec 32 := 0#32
  let v276 : BitVec 1 := Scalar.cmpi .slt v274 c0_i32_125
  let c0_i32_126 : BitVec 32 := 0#32
  let v277 : BitVec 1 := Scalar.cmpi .slt v273 c0_i32_126
  let v278 : BitVec 1 := Scalar.xori v276 v277
  let c0_i32_124 : BitVec 32 := 0#32
  let v275 : BitVec 1 := Scalar.cmpi .ne v274 c0_i32_124
  let v279 : BitVec 1 := Scalar.andi v278 v275
  let v280 : BitVec 32 := Scalar.addi v274 v273
  let v281 : BitVec 32 := Scalar.select v279 v280 v274
  let v282 : BitVec 32 := Scalar.addi v271 v281
  let c80_i32_113 : BitVec 32 := 80#32
  let v259 : BitVec 32 := Scalar.addi v258 c80_i32_113
  let v260 : BitVec 32 := Scalar.minsi v256 v259
  let v283 : BitVec 32 := Scalar.subi v260 v254
  let v284 : BitVec 32 := Scalar.addi v282 v283
  let v285 : BitVec 32 := Scalar.subi v284 v282
  let c1_i32_127 : BitVec 32 := 1#32
  let v287 : BitVec 32 := Scalar.divsi v285 c1_i32_127
  let v288 : BitVec 32 := Scalar.muli v287 c1_i32_127
  let v289 : BitVec 32 := Scalar.addi v282 v288
  let c1_i32_129 : BitVec 32 := 1#32
  let arg10 : BitVec 32 := Scf.iv v289 c1_i32_129 k0_t3
  let v481 : Index := Scalar.indexCast arg10
  let c16 : Index := 16#32
  ![v481.toNat, 16]
def k0_off28 (k0_t1 : Fin k0_t1_loop.trips) (v254 : BitVec 32) (v256 : BitVec 32) (v258 : BitVec 32) (k0_t3 : Fin (k0_t3_loop k0_t1 v254 v256 v258).trips) : Fin 2 → Nat :=
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let c4_i32_114 : BitVec 32 := 4#32
  let c0_i32_115 : BitVec 32 := 0#32
  let v261 : BitVec 1 := Scalar.cmpi .eq c4_i32_114 c0_i32_115
  let c1_i32_116 : BitVec 32 := 1#32
  let v262 : BitVec 32 := Scalar.select v261 c1_i32_116 c4_i32_114
  let v263 : BitVec 32 := Scalar.remsi v200 v262
  let c0_i32_118 : BitVec 32 := 0#32
  let v265 : BitVec 1 := Scalar.cmpi .slt v263 c0_i32_118
  let c0_i32_119 : BitVec 32 := 0#32
  let v266 : BitVec 1 := Scalar.cmpi .slt v262 c0_i32_119
  let v267 : BitVec 1 := Scalar.xori v265 v266
  let c0_i32_117 : BitVec 32 := 0#32
  let v264 : BitVec 1 := Scalar.cmpi .ne v263 c0_i32_117
  let v268 : BitVec 1 := Scalar.andi v267 v264
  let v269 : BitVec 32 := Scalar.addi v263 v262
  let v270 : BitVec 32 := Scalar.select v268 v269 v263
  let c88_i32_120 : BitVec 32 := 88#32
  let v271 : BitVec 32 := Scalar.muli v270 c88_i32_120
  let c8_i32_121 : BitVec 32 := 8#32
  let c0_i32_122 : BitVec 32 := 0#32
  let v272 : BitVec 1 := Scalar.cmpi .eq c8_i32_121 c0_i32_122
  let c1_i32_123 : BitVec 32 := 1#32
  let v273 : BitVec 32 := Scalar.select v272 c1_i32_123 c8_i32_121
  let v274 : BitVec 32 := Scalar.remsi v254 v273
  let c0_i32_125 : BitVec 32 := 0#32
  let v276 : BitVec 1 := Scalar.cmpi .slt v274 c0_i32_125
  let c0_i32_126 : BitVec 32 := 0#32
  let v277 : BitVec 1 := Scalar.cmpi .slt v273 c0_i32_126
  let v278 : BitVec 1 := Scalar.xori v276 v277
  let c0_i32_124 : BitVec 32 := 0#32
  let v275 : BitVec 1 := Scalar.cmpi .ne v274 c0_i32_124
  let v279 : BitVec 1 := Scalar.andi v278 v275
  let v280 : BitVec 32 := Scalar.addi v274 v273
  let v281 : BitVec 32 := Scalar.select v279 v280 v274
  let v282 : BitVec 32 := Scalar.addi v271 v281
  let c80_i32_113 : BitVec 32 := 80#32
  let v259 : BitVec 32 := Scalar.addi v258 c80_i32_113
  let v260 : BitVec 32 := Scalar.minsi v256 v259
  let v283 : BitVec 32 := Scalar.subi v260 v254
  let v284 : BitVec 32 := Scalar.addi v282 v283
  let v285 : BitVec 32 := Scalar.subi v284 v282
  let c1_i32_127 : BitVec 32 := 1#32
  let v287 : BitVec 32 := Scalar.divsi v285 c1_i32_127
  let v288 : BitVec 32 := Scalar.muli v287 c1_i32_127
  let v289 : BitVec 32 := Scalar.addi v282 v288
  let c1_i32_129 : BitVec 32 := 1#32
  let arg10 : BitVec 32 := Scf.iv v289 c1_i32_129 k0_t3
  let v511 : Index := Scalar.indexCast arg10
  let c32 : Index := 32#32
  ![v511.toNat, 32]
def k0_off29 (k0_t1 : Fin k0_t1_loop.trips) (v254 : BitVec 32) (v256 : BitVec 32) (v258 : BitVec 32) (k0_t3 : Fin (k0_t3_loop k0_t1 v254 v256 v258).trips) : Fin 2 → Nat :=
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let c4_i32_114 : BitVec 32 := 4#32
  let c0_i32_115 : BitVec 32 := 0#32
  let v261 : BitVec 1 := Scalar.cmpi .eq c4_i32_114 c0_i32_115
  let c1_i32_116 : BitVec 32 := 1#32
  let v262 : BitVec 32 := Scalar.select v261 c1_i32_116 c4_i32_114
  let v263 : BitVec 32 := Scalar.remsi v200 v262
  let c0_i32_118 : BitVec 32 := 0#32
  let v265 : BitVec 1 := Scalar.cmpi .slt v263 c0_i32_118
  let c0_i32_119 : BitVec 32 := 0#32
  let v266 : BitVec 1 := Scalar.cmpi .slt v262 c0_i32_119
  let v267 : BitVec 1 := Scalar.xori v265 v266
  let c0_i32_117 : BitVec 32 := 0#32
  let v264 : BitVec 1 := Scalar.cmpi .ne v263 c0_i32_117
  let v268 : BitVec 1 := Scalar.andi v267 v264
  let v269 : BitVec 32 := Scalar.addi v263 v262
  let v270 : BitVec 32 := Scalar.select v268 v269 v263
  let c88_i32_120 : BitVec 32 := 88#32
  let v271 : BitVec 32 := Scalar.muli v270 c88_i32_120
  let c8_i32_121 : BitVec 32 := 8#32
  let c0_i32_122 : BitVec 32 := 0#32
  let v272 : BitVec 1 := Scalar.cmpi .eq c8_i32_121 c0_i32_122
  let c1_i32_123 : BitVec 32 := 1#32
  let v273 : BitVec 32 := Scalar.select v272 c1_i32_123 c8_i32_121
  let v274 : BitVec 32 := Scalar.remsi v254 v273
  let c0_i32_125 : BitVec 32 := 0#32
  let v276 : BitVec 1 := Scalar.cmpi .slt v274 c0_i32_125
  let c0_i32_126 : BitVec 32 := 0#32
  let v277 : BitVec 1 := Scalar.cmpi .slt v273 c0_i32_126
  let v278 : BitVec 1 := Scalar.xori v276 v277
  let c0_i32_124 : BitVec 32 := 0#32
  let v275 : BitVec 1 := Scalar.cmpi .ne v274 c0_i32_124
  let v279 : BitVec 1 := Scalar.andi v278 v275
  let v280 : BitVec 32 := Scalar.addi v274 v273
  let v281 : BitVec 32 := Scalar.select v279 v280 v274
  let v282 : BitVec 32 := Scalar.addi v271 v281
  let c80_i32_113 : BitVec 32 := 80#32
  let v259 : BitVec 32 := Scalar.addi v258 c80_i32_113
  let v260 : BitVec 32 := Scalar.minsi v256 v259
  let v283 : BitVec 32 := Scalar.subi v260 v254
  let v284 : BitVec 32 := Scalar.addi v282 v283
  let v285 : BitVec 32 := Scalar.subi v284 v282
  let c1_i32_127 : BitVec 32 := 1#32
  let v287 : BitVec 32 := Scalar.divsi v285 c1_i32_127
  let v288 : BitVec 32 := Scalar.muli v287 c1_i32_127
  let v289 : BitVec 32 := Scalar.addi v282 v288
  let c1_i32_129 : BitVec 32 := 1#32
  let arg10 : BitVec 32 := Scf.iv v289 c1_i32_129 k0_t3
  let v541 : Index := Scalar.indexCast arg10
  let c48 : Index := 48#32
  ![v541.toNat, 48]

def k0_chk6 (k0_t1 : Fin k0_t1_loop.trips) (v254 : BitVec 32) (v256 : BitVec 32) (v258 : BitVec 32) : Prop :=
  ((k0_t2_loop k0_t1 v254 v256 v258).OK) ∧
  (∀ k0_t2 : Fin (k0_t2_loop k0_t1 v254 v256 v258).trips, ∀ a, (k0_off22 k0_t1 v254 v256 v258 k0_t2) a + S1x16.size a ≤ S352x128.size a) ∧
  (∀ k0_t2 : Fin (k0_t2_loop k0_t1 v254 v256 v258).trips, ∀ a, (k0_off23 k0_t1 v254 v256 v258 k0_t2) a + S1x16.size a ≤ S352x128.size a) ∧
  (∀ k0_t2 : Fin (k0_t2_loop k0_t1 v254 v256 v258).trips, ∀ a, (k0_off24 k0_t1 v254 v256 v258 k0_t2) a + S1x16.size a ≤ S352x128.size a) ∧
  (∀ k0_t2 : Fin (k0_t2_loop k0_t1 v254 v256 v258).trips, ∀ a, (k0_off25 k0_t1 v254 v256 v258 k0_t2) a + S1x16.size a ≤ S352x128.size a) ∧
  ((k0_t3_loop k0_t1 v254 v256 v258).OK) ∧
  (∀ k0_t3 : Fin (k0_t3_loop k0_t1 v254 v256 v258).trips, ∀ a, (k0_off26 k0_t1 v254 v256 v258 k0_t3) a + S1x16.size a ≤ S352x128.size a) ∧
  (∀ k0_t3 : Fin (k0_t3_loop k0_t1 v254 v256 v258).trips, ∀ a, (k0_off27 k0_t1 v254 v256 v258 k0_t3) a + S1x16.size a ≤ S352x128.size a) ∧
  (∀ k0_t3 : Fin (k0_t3_loop k0_t1 v254 v256 v258).trips, ∀ a, (k0_off28 k0_t1 v254 v256 v258 k0_t3) a + S1x16.size a ≤ S352x128.size a) ∧
  (∀ k0_t3 : Fin (k0_t3_loop k0_t1 v254 v256 v258).trips, ∀ a, (k0_off29 k0_t1 v254 v256 v258 k0_t3) a + S1x16.size a ≤ S352x128.size a)
theorem k0_t2_ok : ∀ (k0_t1 : Fin k0_t1_loop.trips) (v254 : BitVec 32) (v256 : BitVec 32) (v258 : BitVec 32) (k0_hw6 : k0_chk6 k0_t1 v254 v256 v258), (k0_t2_loop k0_t1 v254 v256 v258).OK := fun k0_t1 v254 v256 v258 k0_hw6 => k0_hw6.1
theorem k0_off22_inb : ∀ (k0_t1 : Fin k0_t1_loop.trips) (v254 : BitVec 32) (v256 : BitVec 32) (v258 : BitVec 32) (k0_hw6 : k0_chk6 k0_t1 v254 v256 v258) (k0_t2 : Fin (k0_t2_loop k0_t1 v254 v256 v258).trips), ∀ a, (k0_off22 k0_t1 v254 v256 v258 k0_t2) a + S1x16.size a ≤ S352x128.size a := fun k0_t1 v254 v256 v258 k0_hw6 k0_t2 => k0_hw6.2.1 k0_t2
theorem k0_off23_inb : ∀ (k0_t1 : Fin k0_t1_loop.trips) (v254 : BitVec 32) (v256 : BitVec 32) (v258 : BitVec 32) (k0_hw6 : k0_chk6 k0_t1 v254 v256 v258) (k0_t2 : Fin (k0_t2_loop k0_t1 v254 v256 v258).trips), ∀ a, (k0_off23 k0_t1 v254 v256 v258 k0_t2) a + S1x16.size a ≤ S352x128.size a := fun k0_t1 v254 v256 v258 k0_hw6 k0_t2 => k0_hw6.2.2.1 k0_t2
theorem k0_off24_inb : ∀ (k0_t1 : Fin k0_t1_loop.trips) (v254 : BitVec 32) (v256 : BitVec 32) (v258 : BitVec 32) (k0_hw6 : k0_chk6 k0_t1 v254 v256 v258) (k0_t2 : Fin (k0_t2_loop k0_t1 v254 v256 v258).trips), ∀ a, (k0_off24 k0_t1 v254 v256 v258 k0_t2) a + S1x16.size a ≤ S352x128.size a := fun k0_t1 v254 v256 v258 k0_hw6 k0_t2 => k0_hw6.2.2.2.1 k0_t2
theorem k0_off25_inb : ∀ (k0_t1 : Fin k0_t1_loop.trips) (v254 : BitVec 32) (v256 : BitVec 32) (v258 : BitVec 32) (k0_hw6 : k0_chk6 k0_t1 v254 v256 v258) (k0_t2 : Fin (k0_t2_loop k0_t1 v254 v256 v258).trips), ∀ a, (k0_off25 k0_t1 v254 v256 v258 k0_t2) a + S1x16.size a ≤ S352x128.size a := fun k0_t1 v254 v256 v258 k0_hw6 k0_t2 => k0_hw6.2.2.2.2.1 k0_t2
theorem k0_t3_ok : ∀ (k0_t1 : Fin k0_t1_loop.trips) (v254 : BitVec 32) (v256 : BitVec 32) (v258 : BitVec 32) (k0_hw6 : k0_chk6 k0_t1 v254 v256 v258), (k0_t3_loop k0_t1 v254 v256 v258).OK := fun k0_t1 v254 v256 v258 k0_hw6 => k0_hw6.2.2.2.2.2.1
theorem k0_off26_inb : ∀ (k0_t1 : Fin k0_t1_loop.trips) (v254 : BitVec 32) (v256 : BitVec 32) (v258 : BitVec 32) (k0_hw6 : k0_chk6 k0_t1 v254 v256 v258) (k0_t3 : Fin (k0_t3_loop k0_t1 v254 v256 v258).trips), ∀ a, (k0_off26 k0_t1 v254 v256 v258 k0_t3) a + S1x16.size a ≤ S352x128.size a := fun k0_t1 v254 v256 v258 k0_hw6 k0_t3 => k0_hw6.2.2.2.2.2.2.1 k0_t3
theorem k0_off27_inb : ∀ (k0_t1 : Fin k0_t1_loop.trips) (v254 : BitVec 32) (v256 : BitVec 32) (v258 : BitVec 32) (k0_hw6 : k0_chk6 k0_t1 v254 v256 v258) (k0_t3 : Fin (k0_t3_loop k0_t1 v254 v256 v258).trips), ∀ a, (k0_off27 k0_t1 v254 v256 v258 k0_t3) a + S1x16.size a ≤ S352x128.size a := fun k0_t1 v254 v256 v258 k0_hw6 k0_t3 => k0_hw6.2.2.2.2.2.2.2.1 k0_t3
theorem k0_off28_inb : ∀ (k0_t1 : Fin k0_t1_loop.trips) (v254 : BitVec 32) (v256 : BitVec 32) (v258 : BitVec 32) (k0_hw6 : k0_chk6 k0_t1 v254 v256 v258) (k0_t3 : Fin (k0_t3_loop k0_t1 v254 v256 v258).trips), ∀ a, (k0_off28 k0_t1 v254 v256 v258 k0_t3) a + S1x16.size a ≤ S352x128.size a := fun k0_t1 v254 v256 v258 k0_hw6 k0_t3 => k0_hw6.2.2.2.2.2.2.2.2.1 k0_t3
theorem k0_off29_inb : ∀ (k0_t1 : Fin k0_t1_loop.trips) (v254 : BitVec 32) (v256 : BitVec 32) (v258 : BitVec 32) (k0_hw6 : k0_chk6 k0_t1 v254 v256 v258) (k0_t3 : Fin (k0_t3_loop k0_t1 v254 v256 v258).trips), ∀ a, (k0_off29 k0_t1 v254 v256 v258 k0_t3) a + S1x16.size a ≤ S352x128.size a := fun k0_t1 v254 v256 v258 k0_hw6 k0_t3 => k0_hw6.2.2.2.2.2.2.2.2.2 k0_t3

def k0_chk11 (v293 : IVec S16 32) (v299 : IVec S16 32) : Prop :=
  (∀ a x, ((![v293, v299] : Fin 2 → IVec S16 32) a x).toNat < S48x256.size a)
theorem k0_idx5_inb : ∀ (v293 : IVec S16 32) (v299 : IVec S16 32) (k0_hw11 : k0_chk11 v293 v299), ∀ a x, ((![v293, v299] : Fin 2 → IVec S16 32) a x).toNat < S48x256.size a := fun v293 v299 k0_hw11 => k0_hw11

def k0_chk12 (v302 : IVec S16 32) (v308 : IVec S16 32) : Prop :=
  (∀ a x, ((![v302, v308] : Fin 2 → IVec S16 32) a x).toNat < S48x256.size a)
theorem k0_idx6_inb : ∀ (v302 : IVec S16 32) (v308 : IVec S16 32) (k0_hw12 : k0_chk12 v302 v308), ∀ a x, ((![v302, v308] : Fin 2 → IVec S16 32) a x).toNat < S48x256.size a := fun v302 v308 k0_hw12 => k0_hw12

def k0_chk13 (v311 : IVec S16 32) (v317 : IVec S16 32) : Prop :=
  (∀ a x, ((![v311, v317] : Fin 2 → IVec S16 32) a x).toNat < S48x256.size a)
theorem k0_idx7_inb : ∀ (v311 : IVec S16 32) (v317 : IVec S16 32) (k0_hw13 : k0_chk13 v311 v317), ∀ a x, ((![v311, v317] : Fin 2 → IVec S16 32) a x).toNat < S48x256.size a := fun v311 v317 k0_hw13 => k0_hw13

def k0_chk14 (v320 : IVec S16 32) (v326 : IVec S16 32) : Prop :=
  (∀ a x, ((![v320, v326] : Fin 2 → IVec S16 32) a x).toNat < S48x256.size a)
theorem k0_idx8_inb : ∀ (v320 : IVec S16 32) (v326 : IVec S16 32) (k0_hw14 : k0_chk14 v320 v326), ∀ a x, ((![v320, v326] : Fin 2 → IVec S16 32) a x).toNat < S48x256.size a := fun v320 v326 k0_hw14 => k0_hw14

def k0_chk15 (v329 : IVec S16 32) (v335 : IVec S16 32) : Prop :=
  (∀ a x, ((![v329, v335] : Fin 2 → IVec S16 32) a x).toNat < S48x256.size a)
theorem k0_idx9_inb : ∀ (v329 : IVec S16 32) (v335 : IVec S16 32) (k0_hw15 : k0_chk15 v329 v335), ∀ a x, ((![v329, v335] : Fin 2 → IVec S16 32) a x).toNat < S48x256.size a := fun v329 v335 k0_hw15 => k0_hw15

def k0_chk16 (v338 : IVec S16 32) (v344 : IVec S16 32) : Prop :=
  (∀ a x, ((![v338, v344] : Fin 2 → IVec S16 32) a x).toNat < S48x256.size a)
theorem k0_idx10_inb : ∀ (v338 : IVec S16 32) (v344 : IVec S16 32) (k0_hw16 : k0_chk16 v338 v344), ∀ a x, ((![v338, v344] : Fin 2 → IVec S16 32) a x).toNat < S48x256.size a := fun v338 v344 k0_hw16 => k0_hw16

def k0_chk17 (v347 : IVec S16 32) (v353 : IVec S16 32) : Prop :=
  (∀ a x, ((![v347, v353] : Fin 2 → IVec S16 32) a x).toNat < S48x256.size a)
theorem k0_idx11_inb : ∀ (v347 : IVec S16 32) (v353 : IVec S16 32) (k0_hw17 : k0_chk17 v347 v353), ∀ a x, ((![v347, v353] : Fin 2 → IVec S16 32) a x).toNat < S48x256.size a := fun v347 v353 k0_hw17 => k0_hw17

def k0_chk18 (v356 : IVec S16 32) (v362 : IVec S16 32) : Prop :=
  (∀ a x, ((![v356, v362] : Fin 2 → IVec S16 32) a x).toNat < S48x256.size a)
theorem k0_idx12_inb : ∀ (v356 : IVec S16 32) (v362 : IVec S16 32) (k0_hw18 : k0_chk18 v356 v362), ∀ a x, ((![v356, v362] : Fin 2 → IVec S16 32) a x).toNat < S48x256.size a := fun v356 v362 k0_hw18 => k0_hw18

def k0_chk19 (v365 : IVec S16 32) (v371 : IVec S16 32) : Prop :=
  (∀ a x, ((![v365, v371] : Fin 2 → IVec S16 32) a x).toNat < S48x256.size a)
theorem k0_idx13_inb : ∀ (v365 : IVec S16 32) (v371 : IVec S16 32) (k0_hw19 : k0_chk19 v365 v371), ∀ a x, ((![v365, v371] : Fin 2 → IVec S16 32) a x).toNat < S48x256.size a := fun v365 v371 k0_hw19 => k0_hw19

def k0_chk20 (v374 : IVec S16 32) (v380 : IVec S16 32) : Prop :=
  (∀ a x, ((![v374, v380] : Fin 2 → IVec S16 32) a x).toNat < S48x256.size a)
theorem k0_idx14_inb : ∀ (v374 : IVec S16 32) (v380 : IVec S16 32) (k0_hw20 : k0_chk20 v374 v380), ∀ a x, ((![v374, v380] : Fin 2 → IVec S16 32) a x).toNat < S48x256.size a := fun v374 v380 k0_hw20 => k0_hw20

def k0_chk21 (v383 : IVec S16 32) (v389 : IVec S16 32) : Prop :=
  (∀ a x, ((![v383, v389] : Fin 2 → IVec S16 32) a x).toNat < S48x256.size a)
theorem k0_idx15_inb : ∀ (v383 : IVec S16 32) (v389 : IVec S16 32) (k0_hw21 : k0_chk21 v383 v389), ∀ a x, ((![v383, v389] : Fin 2 → IVec S16 32) a x).toNat < S48x256.size a := fun v383 v389 k0_hw21 => k0_hw21

def k0_chk22 (v392 : IVec S16 32) (v398 : IVec S16 32) : Prop :=
  (∀ a x, ((![v392, v398] : Fin 2 → IVec S16 32) a x).toNat < S48x256.size a)
theorem k0_idx16_inb : ∀ (v392 : IVec S16 32) (v398 : IVec S16 32) (k0_hw22 : k0_chk22 v392 v398), ∀ a x, ((![v392, v398] : Fin 2 → IVec S16 32) a x).toNat < S48x256.size a := fun v392 v398 k0_hw22 => k0_hw22

def k0_chk23 (v401 : IVec S16 32) (v407 : IVec S16 32) : Prop :=
  (∀ a x, ((![v401, v407] : Fin 2 → IVec S16 32) a x).toNat < S48x256.size a)
theorem k0_idx17_inb : ∀ (v401 : IVec S16 32) (v407 : IVec S16 32) (k0_hw23 : k0_chk23 v401 v407), ∀ a x, ((![v401, v407] : Fin 2 → IVec S16 32) a x).toNat < S48x256.size a := fun v401 v407 k0_hw23 => k0_hw23

def k0_chk24 (v410 : IVec S16 32) (v416 : IVec S16 32) : Prop :=
  (∀ a x, ((![v410, v416] : Fin 2 → IVec S16 32) a x).toNat < S48x256.size a)
theorem k0_idx18_inb : ∀ (v410 : IVec S16 32) (v416 : IVec S16 32) (k0_hw24 : k0_chk24 v410 v416), ∀ a x, ((![v410, v416] : Fin 2 → IVec S16 32) a x).toNat < S48x256.size a := fun v410 v416 k0_hw24 => k0_hw24

def k0_chk25 (v419 : IVec S16 32) (v425 : IVec S16 32) : Prop :=
  (∀ a x, ((![v419, v425] : Fin 2 → IVec S16 32) a x).toNat < S48x256.size a)
theorem k0_idx19_inb : ∀ (v419 : IVec S16 32) (v425 : IVec S16 32) (k0_hw25 : k0_chk25 v419 v425), ∀ a x, ((![v419, v425] : Fin 2 → IVec S16 32) a x).toNat < S48x256.size a := fun v419 v425 k0_hw25 => k0_hw25

def k0_chk26 (v428 : IVec S16 32) (v434 : IVec S16 32) : Prop :=
  (∀ a x, ((![v428, v434] : Fin 2 → IVec S16 32) a x).toNat < S48x256.size a)
theorem k0_idx20_inb : ∀ (v428 : IVec S16 32) (v434 : IVec S16 32) (k0_hw26 : k0_chk26 v428 v434), ∀ a x, ((![v428, v434] : Fin 2 → IVec S16 32) a x).toNat < S48x256.size a := fun v428 v434 k0_hw26 => k0_hw26
def k0_cond1 (k0_t1 : Fin k0_t1_loop.trips) : BitVec 1 :=
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let c4_i32_175 : BitVec 32 := 4#32
  let v436 : BitVec 32 := Scalar.addi v200 c4_i32_175
  let c48_i32_176 : BitVec 32 := 48#32
  let v437 : BitVec 1 := Scalar.cmpi .slt v436 c48_i32_176
  let v438 : BitVec 32 := Scalar.extui v437
  let c0_i32_177 : BitVec 32 := 0#32
  let v439 : BitVec 1 := Scalar.cmpi .ne v438 c0_i32_177
  v439

def k0_off30 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c48_i32_179 : BitVec 32 := 48#32
  let v441 : BitVec 32 := Scalar.muli v1 c48_i32_179
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let c4_i32_178 : BitVec 32 := 4#32
  let v440 : BitVec 32 := Scalar.addi v200 c4_i32_178
  let v442 : BitVec 32 := Scalar.addi v441 v440
  let v443 : Index := Scalar.indexCast v442
  ![v443.toNat]
def k0_mult6 (v446 : BitVec 32) : BitVec 32 :=
  let c0_i32_188 : BitVec 32 := 0#32
  let v464 : BitVec 1 := Scalar.cmpi .sgt v446 c0_i32_188
  let v465 : BitVec 32 := Scalar.extui v464
  let c0_i32_189 : BitVec 32 := 0#32
  let v466 : BitVec 1 := Scalar.cmpi .slt v446 c0_i32_189
  let v467 : BitVec 32 := Scalar.extui v466
  let v468 : BitVec 32 := Scalar.subi v465 v467
  let c8_i32_187 : BitVec 32 := 8#32
  let c0_i32_190 : BitVec 32 := 0#32
  let v469 : BitVec 1 := Scalar.cmpi .sgt c8_i32_187 c0_i32_190
  let v470 : BitVec 32 := Scalar.extui v469
  let c0_i32_191 : BitVec 32 := 0#32
  let v471 : BitVec 1 := Scalar.cmpi .slt c8_i32_187 c0_i32_191
  let v472 : BitVec 32 := Scalar.extui v471
  let v473 : BitVec 32 := Scalar.subi v470 v472
  let v474 : BitVec 1 := Scalar.cmpi .ne v468 v473
  let v475 : BitVec 32 := Scalar.remsi v446 c8_i32_187
  let c0_i32_192 : BitVec 32 := 0#32
  let v476 : BitVec 1 := Scalar.cmpi .ne v475 c0_i32_192
  let v477 : BitVec 1 := Scalar.andi v474 v476
  let v463 : BitVec 32 := Scalar.divsi v446 c8_i32_187
  let c1_i32_193 : BitVec 32 := 1#32
  let v478 : BitVec 32 := Scalar.subi v463 c1_i32_193
  let v479 : BitVec 32 := Scalar.select v477 v478 v463
  let c8_i32_194 : BitVec 32 := 8#32
  let v480 : BitVec 32 := Scalar.muli v479 c8_i32_194
  v480

def k0_off31 (k0_t1 : Fin k0_t1_loop.trips) : Fin 2 → Nat :=
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let c4_i32_178 : BitVec 32 := 4#32
  let v440 : BitVec 32 := Scalar.addi v200 c4_i32_178
  let c4_i32_181 : BitVec 32 := 4#32
  let c0_i32_182 : BitVec 32 := 0#32
  let v453 : BitVec 1 := Scalar.cmpi .eq c4_i32_181 c0_i32_182
  let c1_i32_183 : BitVec 32 := 1#32
  let v454 : BitVec 32 := Scalar.select v453 c1_i32_183 c4_i32_181
  let v455 : BitVec 32 := Scalar.remsi v440 v454
  let c0_i32_185 : BitVec 32 := 0#32
  let v457 : BitVec 1 := Scalar.cmpi .slt v455 c0_i32_185
  let c0_i32_186 : BitVec 32 := 0#32
  let v458 : BitVec 1 := Scalar.cmpi .slt v454 c0_i32_186
  let v459 : BitVec 1 := Scalar.xori v457 v458
  let c0_i32_184 : BitVec 32 := 0#32
  let v456 : BitVec 1 := Scalar.cmpi .ne v455 c0_i32_184
  let v460 : BitVec 1 := Scalar.andi v459 v456
  let v461 : BitVec 32 := Scalar.addi v455 v454
  let v462 : BitVec 32 := Scalar.select v460 v461 v455
  let c88_i32_195 : BitVec 32 := 88#32
  let v482 : BitVec 32 := Scalar.muli v462 c88_i32_195
  let c0_i32_196 : BitVec 32 := 0#32
  ![v482.toNat, 0]
def k0_off32 (v446 : BitVec 32) : Fin 2 → Nat :=
  let c0_i32_188 : BitVec 32 := 0#32
  let v464 : BitVec 1 := Scalar.cmpi .sgt v446 c0_i32_188
  let v465 : BitVec 32 := Scalar.extui v464
  let c0_i32_189 : BitVec 32 := 0#32
  let v466 : BitVec 1 := Scalar.cmpi .slt v446 c0_i32_189
  let v467 : BitVec 32 := Scalar.extui v466
  let v468 : BitVec 32 := Scalar.subi v465 v467
  let c8_i32_187 : BitVec 32 := 8#32
  let c0_i32_190 : BitVec 32 := 0#32
  let v469 : BitVec 1 := Scalar.cmpi .sgt c8_i32_187 c0_i32_190
  let v470 : BitVec 32 := Scalar.extui v469
  let c0_i32_191 : BitVec 32 := 0#32
  let v471 : BitVec 1 := Scalar.cmpi .slt c8_i32_187 c0_i32_191
  let v472 : BitVec 32 := Scalar.extui v471
  let v473 : BitVec 32 := Scalar.subi v470 v472
  let v474 : BitVec 1 := Scalar.cmpi .ne v468 v473
  let v475 : BitVec 32 := Scalar.remsi v446 c8_i32_187
  let c0_i32_192 : BitVec 32 := 0#32
  let v476 : BitVec 1 := Scalar.cmpi .ne v475 c0_i32_192
  let v477 : BitVec 1 := Scalar.andi v474 v476
  let v463 : BitVec 32 := Scalar.divsi v446 c8_i32_187
  let c1_i32_193 : BitVec 32 := 1#32
  let v478 : BitVec 32 := Scalar.subi v463 c1_i32_193
  let v479 : BitVec 32 := Scalar.select v477 v478 v463
  let c8_i32_194 : BitVec 32 := 8#32
  let v480 : BitVec 32 := Scalar.muli v479 c8_i32_194
  let v481 : BitVec 32 := v480
  let c0_i32_197 : BitVec 32 := 0#32
  ![v481.toNat, 0]

def k0_chk27 (k0_t1 : Fin k0_t1_loop.trips) (v446 : BitVec 32) : Prop :=
  (∀ (k0_h1 : k0_cond1 k0_t1 = 1#1), 8 ∣ (k0_mult6 v446).toNat) ∧
  (∀ (k0_h1 : k0_cond1 k0_t1 = 1#1), ∀ a, (k0_off32 v446) a + S88x128.size a ≤ S122968x128.size a)
theorem k0_mult6_dvd : ∀ (k0_t1 : Fin k0_t1_loop.trips) (v446 : BitVec 32) (k0_hw27 : k0_chk27 k0_t1 v446), ∀ (k0_h1 : k0_cond1 k0_t1 = 1#1), 8 ∣ (k0_mult6 v446).toNat := fun k0_t1 v446 k0_hw27 k0_h1 => k0_hw27.1 k0_h1
theorem k0_off32_inb : ∀ (k0_t1 : Fin k0_t1_loop.trips) (v446 : BitVec 32) (k0_hw27 : k0_chk27 k0_t1 v446), ∀ (k0_h1 : k0_cond1 k0_t1 = 1#1), ∀ a, (k0_off32 v446) a + S88x128.size a ≤ S122968x128.size a := fun k0_t1 v446 k0_hw27 k0_h1 => k0_hw27.2 k0_h1

def k0_off33 (k0_t1 : Fin k0_t1_loop.trips) : Fin 1 → Nat :=
  let c0_i32_90 : BitVec 32 := 0#32
  let c0_i32_84 : BitVec 32 := 0#32
  let c1_i32_86 : BitVec 32 := 1#32
  let arg9 : BitVec 32 := Scf.iv c0_i32_84 c1_i32_86 k0_t1
  let c1_i32_89 : BitVec 32 := 1#32
  let v199 : BitVec 32 := Scalar.muli arg9 c1_i32_89
  let v200 : BitVec 32 := Scalar.addi c0_i32_90 v199
  let c4_i32_178 : BitVec 32 := 4#32
  let v440 : BitVec 32 := Scalar.addi v200 c4_i32_178
  let c4_i32_181 : BitVec 32 := 4#32
  let c0_i32_182 : BitVec 32 := 0#32
  let v453 : BitVec 1 := Scalar.cmpi .eq c4_i32_181 c0_i32_182
  let c1_i32_183 : BitVec 32 := 1#32
  let v454 : BitVec 32 := Scalar.select v453 c1_i32_183 c4_i32_181
  let v455 : BitVec 32 := Scalar.remsi v440 v454
  let c0_i32_185 : BitVec 32 := 0#32
  let v457 : BitVec 1 := Scalar.cmpi .slt v455 c0_i32_185
  let c0_i32_186 : BitVec 32 := 0#32
  let v458 : BitVec 1 := Scalar.cmpi .slt v454 c0_i32_186
  let v459 : BitVec 1 := Scalar.xori v457 v458
  let c0_i32_184 : BitVec 32 := 0#32
  let v456 : BitVec 1 := Scalar.cmpi .ne v455 c0_i32_184
  let v460 : BitVec 1 := Scalar.andi v459 v456
  let v461 : BitVec 32 := Scalar.addi v455 v454
  let v462 : BitVec 32 := Scalar.select v460 v461 v455
  ![v462.toNat]
def k0_off34 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c48_i32_88 : BitVec 32 := 48#32
  let v198 : BitVec 32 := Scalar.muli v1 c48_i32_88
  let c0_i32_89_r1 : BitVec 32 := 0#32
  ![v198.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S122968x128 : Shape := ⟨2, ![122968, 128]⟩
abbrev S1537 : Shape := ⟨1, ![1537]⟩
abbrev S1536 : Shape := ⟨1, ![1536]⟩
abbrev S80 : Shape := ⟨1, ![80]⟩
abbrev S1x80 : Shape := ⟨2, ![1, 80]⟩
abbrev S1536x1 : Shape := ⟨2, ![1536, 1]⟩
abbrev S1536x80 : Shape := ⟨2, ![1536, 80]⟩
abbrev S_ : Shape := ⟨0, ![]⟩
abbrev S1536x80x1 : Shape := ⟨3, ![1536, 80, 1]⟩
abbrev S1536x80x128 : Shape := ⟨3, ![1536, 80, 128]⟩
abbrev S1536x80x64 : Shape := ⟨3, ![1536, 80, 64]⟩
abbrev S1536x80x64x4 : Shape := ⟨4, ![1536, 80, 64, 4]⟩
abbrev S1536x80x256 : Shape := ⟨3, ![1536, 80, 256]⟩
abbrev S1536x256 : Shape := ⟨2, ![1536, 256]⟩

abbrev nBuf : Space → Nat
  | .hbm => 55
  | .vmem => 0
  | .smem => 0
  | _ => 0

abbrev bufTy : (tb : Table) → Fin (tcTables nBuf tb) → BufTy
  | .hbm, ⟨0, _⟩ => ⟨S122968x128, .i32⟩
  | .hbm, ⟨1, _⟩ => ⟨S1537, .i32⟩
  | .hbm, ⟨2, _⟩ => ⟨S1536, .i32⟩
  | .hbm, ⟨3, _⟩ => ⟨S1536, .i32⟩
  | .hbm, ⟨4, _⟩ => ⟨S1536, .i32⟩
  | .hbm, ⟨5, _⟩ => ⟨S80, .i32⟩
  | .hbm, ⟨6, _⟩ => ⟨S1x80, .i32⟩
  | .hbm, ⟨7, _⟩ => ⟨S1536x1, .i32⟩
  | .hbm, ⟨8, _⟩ => ⟨S1536x80, .i32⟩
  | .hbm, ⟨9, _⟩ => ⟨S1536x80, .i32⟩
  | .hbm, ⟨10, _⟩ => ⟨S1536x80, .i1⟩
  | .hbm, ⟨11, _⟩ => ⟨S1536x1, .i32⟩
  | .hbm, ⟨12, _⟩ => ⟨S1x80, .i32⟩
  | .hbm, ⟨13, _⟩ => ⟨S1536x80, .i32⟩
  | .hbm, ⟨14, _⟩ => ⟨S1536x80, .i32⟩
  | .hbm, ⟨15, _⟩ => ⟨S1536x80, .i32⟩
  | .hbm, ⟨16, _⟩ => ⟨S_, .i32⟩
  | .hbm, ⟨17, _⟩ => ⟨S1536x80, .i32⟩
  | .hbm, ⟨18, _⟩ => ⟨S1536x80, .i32⟩
  | .hbm, ⟨19, _⟩ => ⟨S_, .i32⟩
  | .hbm, ⟨20, _⟩ => ⟨S1536x80, .i32⟩
  | .hbm, ⟨21, _⟩ => ⟨S1536x80, .i1⟩
  | .hbm, ⟨22, _⟩ => ⟨S_, .i32⟩
  | .hbm, ⟨23, _⟩ => ⟨S1536x80, .i32⟩
  | .hbm, ⟨24, _⟩ => ⟨S1536x80, .i32⟩
  | .hbm, ⟨25, _⟩ => ⟨S1536x80, .i32⟩
  | .hbm, ⟨26, _⟩ => ⟨S1536x80x1, .i32⟩
  | .hbm, ⟨27, _⟩ => ⟨S1536x80x128, .i32⟩
  | .hbm, ⟨28, _⟩ => ⟨S1536x80x64, .i32⟩
  | .hbm, ⟨29, _⟩ => ⟨S1536x80x64x4, .i8⟩
  | .hbm, ⟨30, _⟩ => ⟨S1536x80x256, .i8⟩
  | .hbm, ⟨31, _⟩ => ⟨S1536x80x1, .i32⟩
  | .hbm, ⟨32, _⟩ => ⟨S1536x80, .i32⟩
  | .hbm, ⟨33, _⟩ => ⟨S1536x80, .f32⟩
  | .hbm, ⟨34, _⟩ => ⟨S1536x80x1, .i32⟩
  | .hbm, ⟨35, _⟩ => ⟨S1536x80, .i32⟩
  | .hbm, ⟨36, _⟩ => ⟨S1536x80, .f32⟩
  | .hbm, ⟨37, _⟩ => ⟨S_, .f32⟩
  | .hbm, ⟨38, _⟩ => ⟨S_, .f32⟩
  | .hbm, ⟨39, _⟩ => ⟨S1536x80, .f32⟩
  | .hbm, ⟨40, _⟩ => ⟨S1536x80, .f32⟩
  | .hbm, ⟨41, _⟩ => ⟨S_, .f32⟩
  | .hbm, ⟨42, _⟩ => ⟨S_, .f32⟩
  | .hbm, ⟨43, _⟩ => ⟨S1536x80, .f32⟩
  | .hbm, ⟨44, _⟩ => ⟨S1536x80, .f32⟩
  | .hbm, ⟨45, _⟩ => ⟨S1536x80x256, .i32⟩
  | .hbm, ⟨46, _⟩ => ⟨S1536x80x256, .f32⟩
  | .hbm, ⟨47, _⟩ => ⟨S1536x80x1, .f32⟩
  | .hbm, ⟨48, _⟩ => ⟨S1536x80x256, .f32⟩
  | .hbm, ⟨49, _⟩ => ⟨S1536x80x256, .f32⟩
  | .hbm, ⟨50, _⟩ => ⟨S1536x80x1, .f32⟩
  | .hbm, ⟨51, _⟩ => ⟨S1536x80x256, .f32⟩
  | .hbm, ⟨52, _⟩ => ⟨S1536x80x256, .f32⟩
  | .hbm, ⟨53, _⟩ => ⟨S_, .f32⟩
  | .hbm, ⟨54, _⟩ => ⟨S1536x256, .f32⟩
  | _, _ => ⟨S122968x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_v14 : Ref sig .tc := ⟨.hbm, 17, rfl⟩
abbrev main_v15 : Ref sig .tc := ⟨.hbm, 18, rfl⟩
abbrev main_c_0 : Ref sig .tc := ⟨.hbm, 19, rfl⟩
abbrev main_v16 : Ref sig .tc := ⟨.hbm, 20, rfl⟩
abbrev main_v17 : Ref sig .tc := ⟨.hbm, 21, rfl⟩
abbrev main_c_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst : Ref sig .tc := ⟨.hbm, 37, rfl⟩
abbrev main_call0_v0 : Ref sig .tc := ⟨.hbm, 38, rfl⟩
abbrev main_call0_v1 : Ref sig .tc := ⟨.hbm, 39, rfl⟩
abbrev main_v32 : Ref sig .tc := ⟨.hbm, 40, rfl⟩
abbrev main_cst_2 : Ref sig .tc := ⟨.hbm, 41, rfl⟩
abbrev main_call1_v0 : Ref sig .tc := ⟨.hbm, 42, rfl⟩
abbrev main_call1_v1 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Proof.Words.lean ====
/-
  The index words of the kernel, read as natural numbers: which window of the ring a bag uses, at which row
  of the packed table its copy starts, which ring rows its loop walks, and that every checked access is in
  bounds when the bag's first and last positions lie in the index array.
-/
module

public import proofs.«01_k».proof.Proof.Gen.KernelIdeal
public import proofs.«01_k».proof.Proof.Gen.KernelIdeal.Skeleton
public import Idealize.ShloMosaic.Lib.Affine
public import Idealize.ShloMosaic.Lib.LoopRemainder
public import Idealize.ShloMosaic.Lib.Decide

@[expose] public section

set_option maxRecDepth 16384

noncomputable section

namespace Cert.Proof.Words

open Cert.KernelIdeal Cert.KernelIdeal.Gen
open Idealize.ShloMosaic

/-- The main loop makes one trip per bag of the worker. -/
theorem t1_trips : k0_t1_loop.trips = 48 := by decide +kernel

theorem t1_lt (k : Fin k0_t1_loop.trips) : k.val < 48 := lt_of_lt_of_eq k.isLt t1_trips

/-! ## Windows of the ring, by number -/

theorem off2_eq : k0_off2 = ![88 * 0, 0] := by decide +kernel
theorem off6_eq : k0_off6 = ![88 * 1, 0] := by decide +kernel
theorem off10_eq : k0_off10 = ![88 * 2, 0] := by decide +kernel
theorem off14_eq : k0_off14 = ![88 * 3, 0] := by decide +kernel
theorem off4_eq : k0_off4 = ![0] := by decide +kernel
theorem off8_eq : k0_off8 = ![1] := by decide +kernel
theorem off12_eq : k0_off12 = ![2] := by decide +kernel
theorem off16_eq : k0_off16 = ![3] := by decide +kernel
theorem off18_eq : ∀ k : Fin k0_t1_loop.trips, k0_off18 k = ![88 * (k.val % 4), 0] := by decide +kernel
theorem off20_eq : ∀ k : Fin k0_t1_loop.trips, k0_off20 k = ![k.val % 4] := by decide +kernel
theorem off31_eq : ∀ k : Fin k0_t1_loop.trips, k0_off31 k = ![88 * (k.val % 4), 0] := by decide +kernel
theorem off33_eq : ∀ k : Fin k0_t1_loop.trips, k0_off33 k = ![k.val % 4] := by decide +kernel
theorem cond1_iff : ∀ k : Fin k0_t1_loop.trips, k0_cond1 k = 1#1 ↔ k.val < 44 := by decide +kernel

/-! ## The first table row a bag's copy takes: its first position, rounded down to a multiple of eight -/

/-- The kernel's floor division by eight, times eight. -/
def down8 (v : BitVec 32) : BitVec 32 :=
  Scalar.muli (Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt 8#32 0#32)) (Scalar.extui (Scalar.cmpi .slt 8#32 0#32))))
      (Scalar.cmpi .ne (Scalar.remsi v 8#32) 0#32))
    (Scalar.subi (Scalar.divsi v 8#32) 1#32) (Scalar.divsi v 8#32)) 8#32

theorem down8_isInt {v : BitVec 32} {n : Int} (hv : Affine.IsInt v n) (h0 : 0 ≤ n) (h1 : n ≤ 122880) :
    Affine.IsInt (down8 v) (8 * (n / 8)) := by
  have h8 : Affine.IsInt 8#32 8 := Affine.ofNat _ (by omega)
  have hz : Affine.IsInt 0#32 0 := Affine.ofNat _ (by omega)
  have ho : Affine.IsInt 1#32 1 := Affine.ofNat _ (by omega)
  have hq : Affine.IsInt (Scalar.divsi v 8#32) (n / 8) := Affine.divsi hv h8 (by omega)
  have hq1 : Affine.IsInt (Scalar.subi (Scalar.divsi v 8#32) 1#32) (n / 8 - 1) := Affine.subi hq ho (by omega)
  have hr : Affine.IsInt (Scalar.remsi v 8#32) (n % 8) := Affine.remsi hv h8 (by omega)
  refine Affine.muli (Affine.select_fails ?_ hq1 hq rfl) h8 (by omega)
  by_cases hn : n = 0
  · exact Affine.andi_fails_right trivial (Affine.ne_fails hr hz (by omega))
  · refine Affine.andi_fails_left (Affine.ne_fails (eb := 1)
      (Affine.subi (e := 1) (Affine.extui_holds (e := 1) (Affine.sgt_holds hv hz (by omega)) rfl)
        (Affine.extui_fails (e := 0) (Affine.slt_fails hv hz (by omega)) rfl) (by omega))
      ?_ rfl) trivial
    exact Affine.subi (e := 1) (Affine.extui_holds (e := 1) (Affine.sgt_holds h8 hz (by omega)) rfl)
        (Affine.extui_fails (e := 0) (Affine.slt_fails h8 hz (by omega)) rfl) (by omega)

theorem isInt_of_toNat {v : BitVec 32} (h : v.toNat ≤ 122880) : Affine.IsInt v (v.toNat : Int) := by
  have := Affine.ofNat (e := (v.toNat : Int)) v.toNat (by omega)
  rwa [BitVec.ofNat_toNat, BitVec.setWidth_eq] at this

theorem down8_toNat {v : BitVec 32} (h : v.toNat ≤ 122880) : (down8 v).toNat = 8 * (v.toNat / 8) := by
  have := Affine.toNat_of (down8_isInt (isInt_of_toNat h) (by omega) (by omega)) (by omega)
  omega

theorem off3_eq {v : BitVec 32} (h : v.toNat ≤ 122880) : k0_off3 v = ![8 * (v.toNat / 8), 0] := by
  rw [show k0_off3 v = ![(down8 v).toNat, 0] from rfl, down8_toNat h]
theorem off7_eq {v : BitVec 32} (h : v.toNat ≤ 122880) : k0_off7 v = ![8 * (v.toNat / 8), 0] := by
  rw [show k0_off7 v = ![(down8 v).toNat, 0] from rfl, down8_toNat h]
theorem off11_eq {v : BitVec 32} (h : v.toNat ≤ 122880) : k0_off11 v = ![8 * (v.toNat / 8), 0] := by
  rw [show k0_off11 v = ![(down8 v).toNat, 0] from rfl, down8_toNat h]
theorem off15_eq {v : BitVec 32} (h : v.toNat ≤ 122880) : k0_off15 v = ![8 * (v.toNat / 8), 0] := by
  rw [show k0_off15 v = ![(down8 v).toNat, 0] from rfl, down8_toNat h]
theorem off19_eq {v : BitVec 32} (h : v.toNat ≤ 122880) : k0_off19 v = ![8 * (v.toNat / 8), 0] := by
  rw [show k0_off19 v = ![(down8 v).toNat, 0] from rfl, down8_toNat h]
theorem off32_eq {v : BitVec 32} (h : v.toNat ≤ 122880) : k0_off32 v = ![8 * (v.toNat / 8), 0] := by
  rw [show k0_off32 v = ![(down8 v).toNat, 0] from rfl, down8_toNat h]

/-- A copy of 88 rows from the rounded-down position stays in the packed table. -/
theorem rows_inb {n : Nat} (h : n ≤ 122880) : ∀ a, (![8 * (n / 8), 0] : Fin 2 → Nat) a + S88x128.size a ≤ S122968x128.size a := by
  intro a; fin_cases a
  · show 8 * (n / 8) + 88 ≤ 122968; omega
  · show 0 + 128 ≤ 128; omega

theorem chk_of {v : BitVec 32} (h : v.toNat ≤ 122880) :
    8 ∣ (down8 v).toNat ∧ ∀ a, (![(down8 v).toNat, 0] : Fin 2 → Nat) a + S88x128.size a ≤ S122968x128.size a := by
  rw [down8_toNat h]; exact ⟨⟨_, rfl⟩, rows_inb h⟩

theorem chk1_of {v : BitVec 32} (h : v.toNat ≤ 122880) : k0_chk1 v := chk_of h
theorem chk2_of {v : BitVec 32} (h : v.toNat ≤ 122880) : k0_chk2 v := chk_of h
theorem chk3_of {v : BitVec 32} (h : v.toNat ≤ 122880) : k0_chk3 v := chk_of h
theorem chk4_of {v : BitVec 32} (h : v.toNat ≤ 122880) : k0_chk4 v := chk_of h
theorem chk5_of {v : BitVec 32} (h : v.toNat ≤ 122880) : k0_chk5 v := chk_of h
theorem chk27_of (k : Fin k0_t1_loop.trips) {v : BitVec 32} (h : v.toNat ≤ 122880) : k0_chk27 k v :=
  ⟨fun _ => (chk_of h).1, fun _ => (chk_of h).2⟩

/-! ## The ring rows a bag's loop walks -/

/-- The ring row of the bag's first position: its window, and the position's remainder by eight. -/
def base (k s : Nat) : Nat := 88 * (k % 4) + s % 8

/-- How many positions of the bag are summed: at most eighty. -/
def len (s e : Nat) : Nat := min e (s + 80) - s

theorem len_le (s e : Nat) : len s e ≤ 80 := by unfold len; omega
theorem base_lt (k s : Nat) : base k s ≤ 271 := by unfold base; omega

/-- The kernel's remainder is corrected for signs; of a nonnegative remainder by a positive divisor it is the remainder itself. -/
theorem mod_fix {x b : BitVec 32} {ex eb : Int} (hx : Affine.IsInt x ex) (hb : Affine.IsInt b eb)
    (h : 0 ≤ ex ∧ 0 < eb ∧ ex + eb < 2 ^ 31) :
    Affine.IsInt (Scalar.select (Scalar.andi (Scalar.xori (Scalar.cmpi .slt x 0#32) (Scalar.cmpi .slt b 0#32)) (Scalar.cmpi .ne x 0#32))
      (Scalar.addi x b) x) ex := by
  have h0 : Affine.IsInt 0#32 0 := Affine.ofNat _ (by omega)
  exact Affine.select_fails
    (Affine.andi_fails_left (Affine.xori_ff (Affine.slt_fails hx h0 (by omega)) (Affine.slt_fails hb h0 (by omega))) trivial)
    (Affine.addi (e := ex + eb) hx hb (by omega)) hx rfl

/-- The words of the loop over a bag's positions. -/
theorem t2_words (k : Fin k0_t1_loop.trips) {s e : BitVec 32} (hs : s.toNat ≤ 122880) (he : e.toNat ≤ 122880) :
    Affine.IsInt (k0_t2_loop k s e s).lb (base k.val s.toNat) ∧
      Affine.IsInt (k0_t2_loop k s e s).ub (base k.val s.toNat + (min (e.toNat : Int) (s.toNat + 80) - s.toNat)) := by
  have hk := t1_lt k
  have hsI := isInt_of_toNat hs
  have heI := isInt_of_toNat he
  have h0 : Affine.IsInt 0#32 0 := Affine.ofNat _ (by omega)
  have h1 : Affine.IsInt 1#32 1 := Affine.ofNat _ (by omega)
  have h4 : Affine.IsInt 4#32 4 := Affine.ofNat _ (by omega)
  have h8 : Affine.IsInt 8#32 8 := Affine.ofNat _ (by omega)
  have h80 : Affine.IsInt 80#32 80 := Affine.ofNat _ (by omega)
  have h88 : Affine.IsInt 88#32 88 := Affine.ofNat _ (by omega)
  have h200 : Affine.IsInt _ (k.val : Int) := Affine.addi h0 (Affine.muli (e := (k.val : Int)) (Affine.iv (e := (k.val : Int)) h0 h1 k.val (by omega)) h1 (by omega)) (by omega)
  have h262 := Affine.select_fails (e := 4) (Affine.eq_fails h4 h0 (by omega)) h1 h4 rfl
  have h263 := Affine.remsi (e := (k.val : Int) % 4) h200 h262 (by omega)
  have h270 := mod_fix h263 h262 (by omega)
  have h271 := Affine.muli (e := 88 * ((k.val : Int) % 4)) h270 h88 (by omega)
  have h273 := Affine.select_fails (e := 8) (Affine.eq_fails h8 h0 (by omega)) h1 h8 rfl
  have h274 := Affine.remsi (e := (s.toNat : Int) % 8) hsI h273 (by omega)
  have h281 := mod_fix h274 h273 (by omega)
  have hb : (base k.val s.toNat : Int) = 88 * ((k.val : Int) % 4) + (s.toNat : Int) % 8 := by unfold base; push_cast; rfl
  have h282 := Affine.addi (e := (base k.val s.toNat : Int)) h271 h281 (by omega)
  have h259 := Affine.addi (e := (s.toNat : Int) + 80) hsI h80 (by omega)
  have h260 := Affine.minsi (e := min (e.toNat : Int) (s.toNat + 80)) heI h259 rfl
  have h283 := Affine.subi (e := min (e.toNat : Int) (s.toNat + 80) - s.toNat) h260 hsI (by omega)
  have h284 := Affine.addi (e := (base k.val s.toNat : Int) + (min (e.toNat : Int) (s.toNat + 80) - s.toNat)) h282 h283 (by omega)
  have h285 := Affine.subi (e := min (e.toNat : Int) (s.toNat + 80) - s.toNat) h284 h282 (by omega)
  have h287 := Affine.divsi_one (e := min (e.toNat : Int) (s.toNat + 80) - s.toNat) h285 h1 (by omega)
  have h288 := Affine.muli (e := min (e.toNat : Int) (s.toNat + 80) - s.toNat) h287 h1 (by omega)
  have h289 := Affine.addi (e := (base k.val s.toNat : Int) + (min (e.toNat : Int) (s.toNat + 80) - s.toNat)) h282 h288 (by omega)
  exact ⟨h282, h289⟩

theorem t2_ok (k : Fin k0_t1_loop.trips) {s e : BitVec 32} (hs : s.toNat ≤ 122880) (he : e.toNat ≤ 122880) :
    (k0_t2_loop k s e s).OK := by
  have hb := base_lt k.val s.toNat
  have h1 : Affine.IsInt 1#32 1 := Affine.ofNat _ (by omega)
  exact Affine.ok (t2_words k hs he).1 (t2_words k hs he).2 h1 (by omega)

/-- The loop over a bag's positions makes one trip for each position summed. -/
theorem t2_trips (k : Fin k0_t1_loop.trips) {s e : BitVec 32} (hs : s.toNat ≤ 122880) (he : e.toNat ≤ 122880) :
    (k0_t2_loop k s e s).trips = len s.toNat e.toNat := by
  have hb := base_lt k.val s.toNat
  have h1 : Affine.IsInt 1#32 1 := Affine.ofNat _ (by omega)
  unfold len
  by_cases h : s.toNat ≤ e.toNat
  · exact Affine.trips_eq (t2_words k hs he).1 (t2_words k hs he).2 h1 _ (by omega)
  · have := Affine.trips_le (t2_words k hs he).1 (t2_words k hs he).2 h1 0 (by omega)
    have h' : (k0_t2_loop k s e s).trips ≤ 0 := this
    omega

/-- The ring row of trip `t`. -/
theorem t2_iv (k : Fin k0_t1_loop.trips) {s e : BitVec 32} (hs : s.toNat ≤ 122880) (he : e.toNat ≤ 122880)
    (t : Fin (k0_t2_loop k s e s).trips) :
    (Scf.iv (k0_t2_loop k s e s).lb 1#32 t.val).toNat = base k.val s.toNat + t.val := by
  have hb := base_lt k.val s.toNat
  have ht : t.val < len s.toNat e.toNat := lt_of_lt_of_eq t.isLt (t2_trips k hs he)
  have hl := len_le s.toNat e.toNat
  have h1 : Affine.IsInt 1#32 1 := Affine.ofNat _ (by omega)
  have := Affine.toNat_of (Affine.iv (e := (base k.val s.toNat : Int) + t.val) (t2_words k hs he).1 h1 t.val (by omega)) (by omega)
  omega

theorem off22_eq (k : Fin k0_t1_loop.trips) {s e : BitVec 32} (hs : s.toNat ≤ 122880) (he : e.toNat ≤ 122880)
    (t : Fin (k0_t2_loop k s e s).trips) : k0_off22 k s e s t = ![base k.val s.toNat + t.val, 0] := by
  rw [show k0_off22 k s e s t = ![(Scf.iv (k0_t2_loop k s e s).lb 1#32 t.val).toNat, 0] from rfl, t2_iv k hs he t]
theorem off23_eq (k : Fin k0_t1_loop.trips) {s e : BitVec 32} (hs : s.toNat ≤ 122880) (he : e.toNat ≤ 122880)
    (t : Fin (k0_t2_loop k s e s).trips) : k0_off23 k s e s t = ![base k.val s.toNat + t.val, 16] := by
  rw [show k0_off23 k s e s t = ![(Scf.iv (k0_t2_loop k s e s).lb 1#32 t.val).toNat, 16] from rfl, t2_iv k hs he t]
theorem off24_eq (k : Fin k0_t1_loop.trips) {s e : BitVec 32} (hs : s.toNat ≤ 122880) (he : e.toNat ≤ 122880)
    (t : Fin (k0_t2_loop k s e s).trips) : k0_off24 k s e s t = ![base k.val s.toNat + t.val, 32] := by
  rw [show k0_off24 k s e s t = ![(Scf.iv (k0_t2_loop k s e s).lb 1#32 t.val).toNat, 32] from rfl, t2_iv k hs he t]
theorem off25_eq (k : Fin k0_t1_loop.trips) {s e : BitVec 32} (hs : s.toNat ≤ 122880) (he : e.toNat ≤ 122880)
    (t : Fin (k0_t2_loop k s e s).trips) : k0_off25 k s e s t = ![base k.val s.toNat + t.val, 48] := by
  rw [show k0_off25 k s e s t = ![(Scf.iv (k0_t2_loop k s e s).lb 1#32 t.val).toNat, 48] from rfl, t2_iv k hs he t]

theorem t3_trips (k : Fin k0_t1_loop.trips) (s e s2 : BitVec 32) : (k0_t3_loop k s e s2).trips = 0 :=
  Scf.rem_trips _ _

theorem t3_ok (k : Fin k0_t1_loop.trips) (s e s2 : BitVec 32) : (k0_t3_loop k s e s2).OK := Scf.rem_ok _ _

/-- A row of sixteen words at one of the bag's ring rows is inside the ring. -/
theorem ring_inb {b t c : Nat} (hb : b ≤ 271) (ht : t < 80) (hc : c ≤ 48) :
    ∀ a, (![b + t, c] : Fin 2 → Nat) a + S1x16.size a ≤ S352x128.size a := by
  intro a; fin_cases a
  · show b + t + 1 ≤ 352; omega
  · show c + 16 ≤ 128; omega

theorem chk6_of (k : Fin k0_t1_loop.trips) {s e : BitVec 32} (hs : s.toNat ≤ 122880) (he : e.toNat ≤ 122880) :
    k0_chk6 k s e s := by
  have hb := base_lt k.val s.toNat
  have hl := len_le s.toNat e.toNat
  have ht : ∀ t : Fin (k0_t2_loop k s e s).trips, t.val < 80 := fun t => by
    have : t.val < len s.toNat e.toNat := lt_of_lt_of_eq t.isLt (t2_trips k hs he)
    omega
  have h3 : ∀ t : Fin (k0_t3_loop k s e s).trips, False := fun t =>
    absurd (lt_of_lt_of_eq t.isLt (t3_trips k s e s)) (Nat.not_lt_zero _)
  exact ⟨t2_ok k hs he, fun t => by rw [off22_eq k hs he t]; exact ring_inb hb (ht t) (by omega),
    fun t => by rw [off23_eq k hs he t]; exact ring_inb hb (ht t) (by omega),
    fun t => by rw [off24_eq k hs he t]; exact ring_inb hb (ht t) (by omega),
    fun t => by rw [off25_eq k hs he t]; exact ring_inb hb (ht t) (by omega),
    t3_ok k s e s, fun t => (h3 t).elim, fun t => (h3 t).elim, fun t => (h3 t).elim, fun t => (h3 t).elim⟩

end Cert.Proof.Words
-- ==== Proof.Spec.lean ====
/-
  What one bag's result is, in the words the kernel reads: the sums over the bag's positions, first to last, of code
  times scale and of bias, and their sum. And the three pure facts the kernel's proof uses: one trip of the inner loop
  adds one position to each of the seventeen sums it carries; a scatter of sixteen right values leaves right what was
  right and makes right what it names; the index vectors of the sixteen scatters.
-/
module

public import proofs.«01_k».proof.Proof.Words
public import proofs.«01_k».proof.Proof.Gen.KernelIdeal.Skeleton

@[expose] public section

set_option maxRecDepth 16384

noncomputable section

namespace Cert.Proof.Spec

open Idealize.ShloMosaic
open Cert.KernelIdeal Cert.KernelIdeal.Gen
open Cert.Proof.Words

variable {F : FTy → Type} [FloatOps F]

/-! ## The sums -/

/-- The packed table. -/
abbrev Packed : Type := S122968x128.Idx → BitVec 32

/-- The word of row `r`, column `c` of the packed table; zero outside it. -/
def wd (R : Packed) (r c : Nat) : BitVec 32 :=
  if h : r < 122968 ∧ c < 128 then R (fun | 0 => ⟨r, h.1⟩ | 1 => ⟨c, h.2⟩) else 0#32

/-- A word's bits as a float: a row's scale and its bias are stored so. -/
def asFloat (w : BitVec 32) : F .f32 := FloatOps.ofBits .f32 w

/-- Byte `q` of a word, as a float: a row's codes are stored so. -/
def code (w : BitVec 32) (q : Nat) : F .f32 :=
  FloatOps.sitofp .f32 (IntOp.andi (IntOp.shrui .vector w (BitVec.ofNat 32 (8 * q))) 255#32)

/-- The sum of the biases of the first `m` rows from row `s`. -/
def sumB (R : Packed) (s : Nat) : Nat → F .f32
  | 0 => Scalar.ofBits .f32 0x00000000#32
  | m + 1 => FloatOps.addf (sumB R s m) (asFloat (wd R (s + m) 65))

/-- The sum of code times scale, for byte `q` of word `c`, of the first `m` rows from row `s`. -/
def sumA (R : Packed) (s c q : Nat) : Nat → F .f32
  | 0 => Scalar.ofBits .f32 0x00000000#32
  | m + 1 => FloatOps.addf (sumA R s c q m) (FloatOps.mulf (code (wd R (s + m) c) q) (asFloat (wd R (s + m) 64)))

/-- Column `col` of the result of the bag from position `s` to `e`. -/
def outAt (R : Packed) (s e col : Nat) : F .f32 :=
  FloatOps.addf (sumA R s (col / 4) (col % 4) (len s e)) (sumB R s (len s e))

/-! ## One trip of the inner loop -/

/-- The carried bias sum: the same in each lane. -/
def tupB (R : Packed) (s m : Nat) : FVec F S16 .f32 := fun _ => sumB R s m

/-- The carried sum number `j`: byte `j % 4` of words `16 (j / 4) + lane`. -/
def tupA (R : Packed) (s j m : Nat) : FVec F S16 .f32 := fun l => sumA R s (16 * (j / 4) + (l 0).val) (j % 4) m

/-- The seventeen carried sums after `m` positions. -/
def tup (R : Packed) (s m : Nat) : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 :=
  (tupB R s m, tupA R s 0 m, tupA R s 1 m, tupA R s 2 m, tupA R s 3 m, tupA R s 4 m, tupA R s 5 m, tupA R s 6 m, tupA R s 7 m,
    tupA R s 8 m, tupA R s 9 m, tupA R s 10 m, tupA R s 11 m, tupA R s 12 m, tupA R s 13 m, tupA R s 14 m, tupA R s 15 m)

theorem tup_zero (R : Packed) (s : Nat) :
    (k0_pay109 (F := F), k0_pay109 (F := F), k0_pay109 (F := F), k0_pay109 (F := F), k0_pay109 (F := F), k0_pay109 (F := F), k0_pay109 (F := F), k0_pay109 (F := F), k0_pay109 (F := F), k0_pay109 (F := F), k0_pay109 (F := F), k0_pay109 (F := F), k0_pay109 (F := F), k0_pay109 (F := F), k0_pay109 (F := F), k0_pay109 (F := F), k0_pay109 (F := F)) = tup R s 0 := rfl

/-- A row of sixteen words, read as a vector of sixteen lanes, keeps their order. -/
theorem lane_eq : ∀ l : S16.Idx, ((Shape.reshapeEquiv shapeCasts_S1x16_S16 l) 1).val = (l 0).val := by decide +kernel

section Step

variable (R : Packed) (s t : Nat)

/-- The words of position `s + t` as the loads deliver them: scale, bias, and the four sixteenths of its codes. -/
structure Loaded (sc bi : Vec F S16 .i32) (l0 l1 l2 l3 : Vec F S1x16 .i32) : Prop where
  sc : sc = fun _ => wd R (s + t) 64
  bi : bi = fun _ => wd R (s + t) 65
  l0 : l0 = fun i => wd R (s + t) (16 * 0 + (i 1).val)
  l1 : l1 = fun i => wd R (s + t) (16 * 1 + (i 1).val)
  l2 : l2 = fun i => wd R (s + t) (16 * 2 + (i 1).val)
  l3 : l3 = fun i => wd R (s + t) (16 * 3 + (i 1).val)

/-- Sum `j` one position further, as the kernel computes it. -/
theorem step_eq (j : Nat) (q : Nat) (hq : j / 4 = q) (sh : BitVec 32) (hsh : sh = BitVec.ofNat 32 (8 * (j % 4))) :
    (addf (tupA R s j t) (mulf (sitofp .f32 (andi (shrui
        (shapeCast S16 (fun i : S1x16.Idx => wd R (s + t) (16 * q + (i 1).val)) shapeCasts_S1x16_S16 : IVec S16 32) (broadcast S16 sh)) (broadcast S16 255#32)))
        (bitcastToFloat .f32 (fun _ : S16.Idx => wd R (s + t) 64))) : FVec F S16 .f32) = tupA R s j (t + 1) := by
  subst hq hsh
  funext l
  show FloatOps.addf (sumA R s (16 * (j / 4) + (l 0).val) (j % 4) t)
    (FloatOps.mulf (code (wd R (s + t) (16 * (j / 4) + ((Shape.reshapeEquiv shapeCasts_S1x16_S16 l) 1).val)) (j % 4)) (asFloat (wd R (s + t) 64))) = _
  rw [lane_eq]
  rfl

theorem stepB_eq : k0_pay6 (tupB R s t) (fun _ => wd R (s + t) 65) = (tupB R s (t + 1) : FVec F S16 .f32) := rfl

variable {R s t}

/-- The seventeen sums after one more trip. -/
theorem trip_eq {sc bi : Vec F S16 .i32} {l0 l1 l2 l3 : Vec F S1x16 .i32} (h : Loaded R s t sc bi l0 l1 l2 l3) :
    (k0_pay6 (tupB R s t) bi,
      k0_pay8 (tupA R s 0 t) sc l0, k0_pay9 (tupA R s 1 t) sc l0, k0_pay10 (tupA R s 2 t) sc l0, k0_pay11 (tupA R s 3 t) sc l0,
      k0_pay13 (tupA R s 4 t) (k0_pay4 sc) (k0_pay12 l1), k0_pay14 (tupA R s 5 t) (k0_pay4 sc) (k0_pay12 l1),
      k0_pay15 (tupA R s 6 t) (k0_pay4 sc) (k0_pay12 l1), k0_pay16 (tupA R s 7 t) (k0_pay4 sc) (k0_pay12 l1),
      k0_pay18 (tupA R s 8 t) (k0_pay4 sc) l2, k0_pay19 (tupA R s 9 t) (k0_pay4 sc) l2,
      k0_pay45 (tupA R s 10 t) (k0_pay4 sc) (k0_pay17 l2) k0_pay20, k0_pay46 (tupA R s 11 t) (k0_pay4 sc) (k0_pay17 l2),
      k0_pay48 (tupA R s 12 t) (k0_pay4 sc) l3, k0_pay49 (tupA R s 13 t) (k0_pay4 sc) l3,
      k0_pay50 (tupA R s 14 t) (k0_pay4 sc) l3, k0_pay51 (tupA R s 15 t) (k0_pay4 sc) l3) = (tup R s (t + 1)) := by
  obtain ⟨rfl, rfl, rfl, rfl, rfl, rfl⟩ := h
  exact congrArg₂ Prod.mk (stepB_eq R s t) <|
    congrArg₂ Prod.mk (step_eq R s t 0 0 rfl 0#32 rfl) <| congrArg₂ Prod.mk (step_eq R s t 1 0 rfl 8#32 rfl) <|
    congrArg₂ Prod.mk (step_eq R s t 2 0 rfl 16#32 rfl) <| congrArg₂ Prod.mk (step_eq R s t 3 0 rfl 24#32 rfl) <|
    congrArg₂ Prod.mk (step_eq R s t 4 1 rfl 0#32 rfl) <| congrArg₂ Prod.mk (step_eq R s t 5 1 rfl 8#32 rfl) <|
    congrArg₂ Prod.mk (step_eq R s t 6 1 rfl 16#32 rfl) <| congrArg₂ Prod.mk (step_eq R s t 7 1 rfl 24#32 rfl) <|
    congrArg₂ Prod.mk (step_eq R s t 8 2 rfl 0#32 rfl) <| congrArg₂ Prod.mk (step_eq R s t 9 2 rfl 8#32 rfl) <|
    congrArg₂ Prod.mk (step_eq R s t 10 2 rfl 16#32 rfl) <| congrArg₂ Prod.mk (step_eq R s t 11 2 rfl 24#32 rfl) <|
    congrArg₂ Prod.mk (step_eq R s t 12 3 rfl 0#32 rfl) <| congrArg₂ Prod.mk (step_eq R s t 13 3 rfl 8#32 rfl) <|
    congrArg₂ Prod.mk (step_eq R s t 14 3 rfl 16#32 rfl) (step_eq R s t 15 3 rfl 24#32 rfl)

end Step

/-! ## Scatters -/

/-- Steps that each leave a value as it is or make it `y`: the value is `y` at the end if it was at the start or one of them named it. -/
theorem foldl_right {α β γ : Type} (step : (α → γ) → β → (α → γ)) (j : α) (y : γ) (N : β → Prop)
    (h1 : ∀ g k, N k → step g k j = y) (h2 : ∀ g k, ¬ N k → step g k j = g j) :
    ∀ (L : List β) (g : α → γ), (g j = y ∨ ∃ k ∈ L, N k) → L.foldl step g j = y := by
  intro L
  induction L with
  | nil =>
    intro g hg
    rcases hg with hg | ⟨_, hk, _⟩
    · exact hg
    · exact absurd hk List.not_mem_nil
  | cons k L ih =>
    intro g hg
    rw [List.foldl_cons]
    refine ih _ ?_
    by_cases hN : N k
    · exact Or.inl (h1 g k hN)
    · rw [h2 g k hN]
      rcases hg with hg | ⟨k', hk', hj'⟩
      · exact Or.inl hg
      · rcases List.mem_cons.mp hk' with rfl | hk'
        · exact absurd hj' hN
        · exact Or.inr ⟨k', hk', hj'⟩

/-- A scatter of values that are right at the places they go to: what was right stays right, what is named becomes right. -/
theorem storeIdx_right {s : Shape} {e : EltTy} {d : Fin 1 → Nat} (f : Vec F s e) (idxs : Fin s.rank → IVec ⟨1, d⟩ 32) (v : Vec F ⟨1, d⟩ e)
    (h : ∀ a x, (idxs a x).toNat < s.size a) (T : s.Idx → Elt F e) (hv : ∀ x, v x = T (idxAt idxs h x)) (j : s.Idx)
    (hj : f j = T j ∨ ∃ x, j = idxAt idxs h x) : storeIdx f idxs v (fun _ => 1#1) false h j = T j := by
  unfold storeIdx
  refine foldl_right _ j (T j) (fun k => j = idxAt idxs h (Shape.ofLane k)) (fun g k hk => ?_) (fun g k hk => ?_) _ f (hj.imp id ?_)
  · dsimp only
    rw [if_pos (by rfl), if_pos fun a => by rw [← hk], if_neg (by decide), hv, ← hk]
  · dsimp only
    rw [if_pos (by rfl), if_neg fun H => hk (funext fun a => Fin.ext (H a))]
  rintro ⟨x, hx⟩
  refine ⟨x 0, List.mem_finRange _, hx.trans (congrArg _ ?_)⟩
  funext a
  obtain rfl : a = 0 := Fin.eq_zero a
  rfl

/-- Rows below `k` of the tile's results are right, and in row `k` the columns of its first `n` scatters. -/
def Done (T : Nat → Nat → F .f32) (k n : Nat) (acc : S48x256.Idx → F .f32) : Prop :=
  ∀ j : S48x256.Idx, ((j 0).val < k ∨ ((j 0).val = k ∧ 4 * ((j 1).val / 64) + (j 1).val % 4 < n)) → acc j = T (j 0).val (j 1).val

theorem Done.next {T : Nat → Nat → F .f32} {k : Nat} {acc : S48x256.Idx → F .f32} (h : Done T k 16 acc) : Done T (k + 1) 0 acc := by
  intro j hj
  refine h j ?_
  have h1 : (j 1).val < 256 := (j 1).isLt
  rcases hj with hj | ⟨_, hj⟩ <;> omega

/-- The column that lane `l` of scatter `n` names. -/
def col (n l : Nat) : Nat := 64 * (n / 4) + 4 * l + n % 4

theorem done_put {T : Nat → Nat → F .f32} {k n : Nat} {acc : Vec F S48x256 .f32} (hn : n < 16) (ri ci : IVec S16 32) (v : FVec F S16 .f32)
    (h : ∀ a x, ((![ri, ci] : Fin 2 → IVec S16 32) a x).toNat < S48x256.size a)
    (hri : ∀ x, (ri x).toNat = k) (hci : ∀ x : S16.Idx, (ci x).toNat = col n (x 0).val) (hv : ∀ x : S16.Idx, v x = T k (col n (x 0).val))
    (hd : Done T k n acc) : Done T k (n + 1) (storeIdx (s := S48x256) (e := .f32) acc ![ri, ci] v (fun _ => 1#1) false h) := by
  intro j hj
  refine storeIdx_right (s := S48x256) (e := .f32) acc ![ri, ci] v h (fun j => T (j 0).val (j 1).val) (fun x => ?_) j ?_
  · rw [hv x]
    show _ = T (ri x).toNat (ci x).toNat
    rw [hri, hci]
  · have h1 : (j 1).val < 256 := (j 1).isLt
    by_cases hdone : (j 0).val < k ∨ ((j 0).val = k ∧ 4 * ((j 1).val / 64) + (j 1).val % 4 < n)
    · exact Or.inl (hd j hdone)
    · right
      have hl : (j 1).val % 64 / 4 < 16 := by omega
      refine ⟨(fun | 0 => ⟨(j 1).val % 64 / 4, hl⟩ : S16.Idx), ?_⟩
      funext a
      fin_cases a
      · refine Fin.ext ?_
        show (j 0).val = (ri _).toNat
        rw [hri]; omega
      · refine Fin.ext ?_
        show (j 1).val = (ci _).toNat
        rw [hci]
        show (j 1).val = col n ((j 1).val % 64 / 4)
        unfold col; omega

/-- The row number a trip scatters to, as a word. -/
abbrev rowWord (k : Fin k0_t1_loop.trips) : BitVec 32 := Scalar.addi 0#32 (Scalar.muli (Scf.iv 0#32 1#32 k) 1#32)

theorem rowWord_toNat : ∀ k : Fin k0_t1_loop.trips, (rowWord k).toNat = k.val := by decide +kernel

/-- The row indices of a scatter: the trip's number in each lane. -/
def rowVec (w : BitVec 32) : IVec S16 32 := addi k0_pay108 (broadcast S16 w)

theorem rowVec_toNat (k : Fin k0_t1_loop.trips) (x : S16.Idx) : (rowVec (rowWord k) x).toNat = k.val := by
  show (0#32 + rowWord k).toNat = k.val
  rw [BitVec.zero_add, rowWord_toNat]

/-- The lane numbers. -/
def laneVec : IVec S16 32 := iota .scVector S16 32 [0]

/-- The column indices of scatter `n`. -/
def colVec (q kk : BitVec 32) : IVec S16 32 := addi (addi (broadcast S16 q) (muli (broadcast S16 4#32) laneVec)) (broadcast S16 kk)

theorem colVec_toNat : ∀ (n : Fin 16) (x : S16.Idx),
    (colVec (BitVec.ofNat 32 (64 * (n.val / 4))) (BitVec.ofNat 32 (n.val % 4)) x).toNat = col n.val (x 0).val := by decide +kernel

theorem put_chk (k : Fin k0_t1_loop.trips) (n : Fin 16) :
    ∀ a x, ((![rowVec (rowWord k), colVec (BitVec.ofNat 32 (64 * (n.val / 4))) (BitVec.ofNat 32 (n.val % 4))] : Fin 2 → IVec S16 32) a x).toNat < S48x256.size a := by
  intro a x
  have hk := t1_lt k
  have hx : (x 0).val < 16 := (x 0).isLt
  fin_cases a
  · show (rowVec (rowWord k) x).toNat < 48
    rw [rowVec_toNat]; exact hk
  · show (colVec _ _ x).toNat < 256
    rw [colVec_toNat]; have := n.isLt; unfold col; omega

/-- The value of scatter `n`: the code sum and the bias sum of the whole bag. -/
theorem put_val (R : Packed) (s e : Nat) (n : Fin 16) (x : S16.Idx) :
    (addf (tupA R s n.val (len s e)) (tupB R s (len s e)) : FVec F S16 .f32) x = outAt R s e (col n.val (x 0).val) := by
  have hx : (x 0).val < 16 := (x 0).isLt
  have hn := n.isLt
  show FloatOps.addf (sumA R s (16 * (n.val / 4) + (x 0).val) (n.val % 4) _) (sumB R s _) = FloatOps.addf _ _
  rw [show 16 * (n.val / 4) + (x 0).val = col n.val (x 0).val / 4 by unfold col; omega,
    show n.val % 4 = col n.val (x 0).val % 4 by unfold col; omega]

end Cert.Proof.Spec

end
-- ==== Proof.Ring.lean ====
/-
  A buffer several transfers write at once, window by window, while its owner keeps reading it. Every element is
  in write mode: the owner holds half of each element, and each window's other half goes with the transfer that
  fills the window. A landed transfer tells the owner what its window holds; a window can be given a new target
  when its half is back.
-/
module

public import Idealize.ShloMosaic.Lib.WriteMode
public import Idealize.ShloMosaic.Lib.Transfers

@[expose] public section

noncomputable section

namespace Cert.Proof.Ring

open Idealize.ShloMosaic
open Idealize.SL
open Idealize.SL.BI (sProp Storable)
open scoped Idealize.SL.BI
open Idealize.SL.BI.BIBase Idealize.SL.BI.Laws Idealize.SL.Sem Idealize.SL.ProofMode
open Idealize.SL.RA
open Idealize.ShloMosaic.Transfers

variable {nD : Nat} {τ : Topo} {sig : RefSig} {Ix : Type} [DecidableEq Ix] {Val : EltTy → Type} {Name : Type} [DecidableEq Name]
variable {U : Type} [URA U] {Lvl : Type} [Preorder Lvl] {emb : UEmb (WmRA nD τ sig Val) U}

local notation "𝕄" => MT nD τ sig Ix Val Name U Lvl
local notation:60 ℓ " ⇝[" I "]{" q "} " f:max " ⇒ " g:max " @ " W:max => willBeTo emb ℓ I q f g W

/-- The owner's half. -/
abbrev hO : PosShare TreeShare := fullShare.left
/-- The transfers' half. -/
abbrev hT : PosShare TreeShare := fullShare.right

instance isOp_half : IsOp fullShare hO hT := ⟨PosShare.mem_left_op_right fullShare⟩

section Assertions

variable {ιwm : Name} {ℓ : Loc nD τ sig} {I S : Finset (Idx ℓ)} {q : PosShare TreeShare}
variable {f f' : Buf Val ℓ} {g g' : Tgt Val ℓ} {W W' : Finset (Idx ℓ)}

/-- The two halves of elements with the same marks make the whole, and come apart again. -/
theorem halves : (ℓ ⇝[I]{fullShare} f ⇒ g @ W : sProp 𝕄) ⊣⊢ iprop((ℓ ⇝[I]{hO} f ⇒ g @ W) ∗ (ℓ ⇝[I]{hT} f ⇒ g @ W)) :=
  BI.Region.held_share (PosShare.mem_left_op_right fullShare) fun i _ => by
    have := Idealize.SL.RA.Region.WB.mem_mk_op_mk (f i) (g i) (decide (i ∈ W)) (decide (i ∈ W))
    rwa [Bool.or_self] at this

/-- Halves with different marks make a whole with both. -/
theorem join_halves : (iprop((ℓ ⇝[I]{hO} f ⇒ g @ W) ∗ (ℓ ⇝[I]{hT} f ⇒ g @ W')) : sProp 𝕄) ⊢ ℓ ⇝[I]{fullShare} f ⇒ g @ (W ∪ W') :=
  (BI.Region.held_share (PosShare.mem_left_op_right fullShare) fun i _ => by
    have := Idealize.SL.RA.Region.WB.mem_mk_op_mk (f i) (g i) (decide (i ∈ W)) (decide (i ∈ W'))
    rwa [show decide (i ∈ W ∪ W') = (decide (i ∈ W) || decide (i ∈ W')) by simp [Finset.mem_union]]).2

/-- A transfer's half of a window agrees with the owner's half of everything; the owner learns its marks. -/
theorem learn (hS : S ⊆ I) :
    (iprop((ℓ ⇝[I]{hO} f ⇒ g @ W) ∗ (ℓ ⇝[S]{hT} f' ⇒ g' @ W')) : sProp 𝕄)
      ⊢ iprop(⌜∀ i ∈ S, f i = f' i ∧ g i = g' i⌝ ∗ (ℓ ⇝[I]{hO} f ⇒ g @ (W ∪ (W' ∩ S))) ∗ (ℓ ⇝[S]{hT} f ⇒ g @ (W ∪ W'))) := by
  iintro ⟨Ho, Ht⟩
  icombine Ho Ht as H
  ihave %hag := (BI.Region.willBe_agree (ι := (wmEmb Ix emb).toEmb)) $$ H
  have h : ∀ i ∈ S, f i = f' i ∧ g i = g' i := fun i hi => (hag i (Finset.mem_inter.mpr ⟨hS hi, hi⟩)).1
  icases H with ⟨Ho, Ht⟩
  ihave Ho := (BI.Region.held_split_subset (ι := (wmEmb Ix emb).toEmb) hS).1 $$ Ho
  icases Ho with ⟨Hs, Hr⟩
  ihave Ht := (Entails.of_eq (BI.Region.willBe_congr (ι := (wmEmb Ix emb).toEmb) (k := ℓ) (q := hT) (I := S) (W := W') (W' := W')
    (fun i hi => (h i hi).1.symm) (fun i hi => (h i hi).2.symm) (fun _ _ => Iff.rfl))) $$ Ht
  ihave H := (join_halves (emb := emb) (ℓ := ℓ) (I := S) (f := f) (g := g) (W := W) (W' := W')) $$ [Hs Ht]
  · isplitl [Hs]; · iexact Hs
    iexact Ht
  ihave H := (halves (emb := emb)).1 $$ H
  icases H with ⟨Hs, Ht⟩
  isplitr
  · ipureintro; exact h
  isplitl [Hs Hr]
  · iapply (BI.Region.held_split_subset (ι := (wmEmb Ix emb).toEmb) hS).2
    isplitl [Hs]
    · iapply (Entails.of_eq (BI.Region.willBe_congr (ι := (wmEmb Ix emb).toEmb) (k := ℓ) (q := hO) (I := S)
        (fun i _ => rfl) (fun i _ => rfl) (fun i hi => by simp [Finset.mem_union, Finset.mem_inter, hi]))) $$ Hs
    · iapply (Entails.of_eq (BI.Region.willBe_congr (ι := (wmEmb Ix emb).toEmb) (k := ℓ) (q := hO) (I := I \ S)
        (fun i _ => rfl) (fun i _ => rfl) (fun i hi => by
          have := (Finset.mem_sdiff.mp hi).2
          simp [Finset.mem_union, Finset.mem_inter, this]))) $$ Hr
  · iexact Ht

/-- A window whose transfer's half is back is given a new target. -/
theorem retarget (hS : S ⊆ I) (t : Tgt Val ℓ) :
    (iprop(wmInv emb ιwm ∗ (ℓ ⇝[I]{hO} f ⇒ g @ W) ∗ (ℓ ⇝[S]{hT} f' ⇒ g' @ W')) : sProp 𝕄)
      ⊢ iprop(|={Set.univ}=> ∃ f₁ g₁ W₁, (ℓ ⇝[I]{hO} f₁ ⇒ g₁ @ W₁) ∗ (ℓ ⇝[S]{hT} f₁ ⇒ t @ ∅)) := by
  classical
  iintro ⟨#Hwm, H⟩
  ihave H := (learn (emb := emb) hS) $$ H
  icases H with ⟨%h, Ho, Ht⟩
  ihave Ho := (BI.Region.held_split_subset (ι := (wmEmb Ix emb).toEmb) hS).1 $$ Ho
  icases Ho with ⟨Hs, Hr⟩
  ihave H := (join_halves (emb := emb) (ℓ := ℓ) (I := S) (f := f) (g := g) (W := W ∪ W' ∩ S) (W' := W ∪ W')) $$ [Hs Ht]
  · isplitl [Hs]; · iexact Hs
    iexact Ht
  imod (willBeTo_castOut (emb := emb)) $$ [H] with ⟨%f₂, -, Hp⟩
  · isplitr; · iexact Hwm
    iexact H
  imod (pointsTo_castIn (emb := emb) t) $$ [Hp] with Hp
  · isplitr; · iexact Hwm
    iexact Hp
  imodintro
  ihave H := (halves (emb := emb)).1 $$ Hp
  icases H with ⟨Hs, Ht⟩
  iexists (S.piecewise f₂ f), (S.piecewise t g), (W \ S)
  isplitl [Hs Hr]
  · iapply (BI.Region.held_split_subset (ι := (wmEmb Ix emb).toEmb) hS).2
    isplitl [Hs]
    · iapply (Entails.of_eq (BI.Region.willBe_congr (ι := (wmEmb Ix emb).toEmb) (k := ℓ) (q := hO) (I := S)
        (fun i hi => (Finset.piecewise_eq_of_mem _ _ _ hi).symm) (fun i hi => (Finset.piecewise_eq_of_mem _ _ _ hi).symm)
        (fun i hi => by simp [hi]))) $$ Hs
    · iapply (Entails.of_eq (BI.Region.willBe_congr (ι := (wmEmb Ix emb).toEmb) (k := ℓ) (q := hO) (I := I \ S)
        (fun i hi => (Finset.piecewise_eq_of_notMem _ _ _ (Finset.mem_sdiff.mp hi).2).symm)
        (fun i hi => (Finset.piecewise_eq_of_notMem _ _ _ (Finset.mem_sdiff.mp hi).2).symm)
        (fun i hi => by
          have := (Finset.mem_sdiff.mp hi).2
          simp [Finset.mem_union, Finset.mem_inter, this]))) $$ Hr
  · iapply (Entails.of_eq (BI.Region.willBe_congr (ι := (wmEmb Ix emb).toEmb) (k := ℓ) (q := hT) (I := S)
        (fun i hi => (Finset.piecewise_eq_of_mem _ _ _ hi).symm) (fun i hi => rfl) (fun i _ => Iff.rfl))) $$ Ht

/-- The owner puts the buffer in write mode and keeps half. -/
theorem start (t : Tgt Val ℓ) :
    (iprop(wmInv emb ιwm ∗ ℓ ↦[I]{fullShare} f) : sProp 𝕄)
      ⊢ iprop(|={Set.univ}=> ((ℓ ⇝[I]{hO} f ⇒ t @ ∅) ∗ (ℓ ⇝[I]{hT} f ⇒ t @ ∅))) := by
  iintro H
  imod (pointsTo_castIn (emb := emb) t) $$ H with Hp
  imodintro
  iapply (halves (emb := emb)).1 $$ Hp

/-- Two windows' halves the owner's half covers are one window's. -/
theorem merge {J : Finset (Idx ℓ)} {f₂ : Buf Val ℓ} {g₂ : Tgt Val ℓ} {W₂ : Finset (Idx ℓ)} (hS : S ⊆ I) (hJ : J ⊆ I) (hd : Disjoint S J) :
    (iprop((ℓ ⇝[I]{hO} f ⇒ g @ W) ∗ (ℓ ⇝[S]{hT} f' ⇒ g' @ W') ∗ (ℓ ⇝[J]{hT} f₂ ⇒ g₂ @ W₂)) : sProp 𝕄)
      ⊢ iprop(∃ W₃ W₄, (ℓ ⇝[I]{hO} f ⇒ g @ W₃) ∗ (ℓ ⇝[S ∪ J]{hT} f ⇒ g @ W₄)) := by
  classical
  iintro ⟨Ho, Hs, Hj⟩
  ihave H := (learn (emb := emb) (f := f) (f' := f') (g := g) (g' := g') (W := W) (W' := W') hS) $$ [Ho Hs]
  · isplitl [Ho]; · iexact Ho
    iexact Hs
  icases H with ⟨-, Ho, Hs⟩
  ihave H := (learn (emb := emb) (f := f) (f' := f₂) (g := g) (g' := g₂) (W := W ∪ (W' ∩ S)) (W' := W₂) hJ) $$ [Ho Hj]
  · isplitl [Ho]; · iexact Ho
    iexact Hj
  icases H with ⟨-, Ho, Hj⟩
  iexists (W ∪ (W' ∩ S) ∪ (W₂ ∩ J)), (((W ∪ W') ∩ S) ∪ ((W ∪ (W' ∩ S) ∪ W₂) \ S))
  isplitl [Ho]
  · iexact Ho
  iapply (BI.Region.held_union (ι := (wmEmb Ix emb).toEmb) hd).2
  isplitl [Hs]
  · iapply (Entails.of_eq (BI.Region.willBe_congr (ι := (wmEmb Ix emb).toEmb) (k := ℓ) (q := hT) (I := S)
      (fun i _ => rfl) (fun i _ => rfl) (fun i hi => by simp [Finset.mem_union, Finset.mem_inter, Finset.mem_sdiff, hi]))) $$ Hs
  · iapply (Entails.of_eq (BI.Region.willBe_congr (ι := (wmEmb Ix emb).toEmb) (k := ℓ) (q := hT) (I := J)
      (fun i _ => rfl) (fun i _ => rfl) (fun i hi => by
        have := Finset.disjoint_right.mp hd hi
        simp [Finset.mem_union, Finset.mem_inter, Finset.mem_sdiff, this]))) $$ Hj

/-- Both halves back, the owner takes the buffer out of write mode. -/
theorem finish :
    (iprop(wmInv emb ιwm ∗ (ℓ ⇝[I]{hO} f ⇒ g @ W) ∗ (ℓ ⇝[I]{hT} f ⇒ g @ W')) : sProp 𝕄)
      ⊢ iprop(|={Set.univ}=> ∃ f₁, ℓ ↦[I]{fullShare} f₁) := by
  iintro ⟨#Hwm, Ho, Ht⟩
  ihave H := (join_halves (emb := emb) (ℓ := ℓ) (I := I) (f := f) (g := g) (W := W) (W' := W')) $$ [Ho Ht]
  · isplitl [Ho]; · iexact Ho
    iexact Ht
  imod (willBeTo_castOut (emb := emb)) $$ [H] with ⟨%f₂, -, Hp⟩
  · isplitr; · iexact Hwm
    iexact H
  imodintro
  iexists f₂
  iexact Hp

end Assertions

section Rules

variable {Λ : Labels} {defs : Defs nD τ sig Val Λ} (𝒱 : Variants) (c : Thread nD τ) (bd : Option 𝒱.V) {ιwm : Name}
variable {sp sp' : Space} {s : Shape} {e : EltTy}
variable (EC : UEmb Counters (MT nD τ sig Ix Val Name U Lvl))

/-- A core starts a transfer into elements it holds a half of in write mode: in flight, it will deliver that half
    with every element written, and the source back. -/
theorem wp_dma_wm {α : Type} {Q : α → sProp 𝕄} [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q qd : PosShare TreeShare} {fs : Buf Val (src.view.loc c)}
    {fd : Buf Val (dst.view.loc c)} {g : Tgt Val (dst.view.loc c)} {W : Finset (Idx (dst.view.loc c))}
    (ι : Ix) (N : ℕ) (hN : dst.view.amount sm = N) (hN0 : 0 < N)
    (hadm : dst.view.Admitted Val g (src.view.read Val fs) Finset.univ) :
    iprop((src.view.loc c ↦[src.view.set]{q} fs) ∗ wmInv emb ιwm ∗ (dst.view.loc c ⇝[dst.view.set]{qd} fd ⇒ g @ W) ∗ semVal (c, sm) 0)
      ⊢ iprop((Flight EC c sm ι N iprop((dst.view.loc c ⇝[dst.view.set]{qd} fd ⇒ g @ (W ∪ dst.view.set))
                                    ∗ (src.view.loc c ↦[src.view.set]{q} fs))
              -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hwm, Hd, Hv⟩ Hk
  imod (flight_alloc EC hN0 iprop((dst.view.loc c ⇝[dst.view.set]{qd} fd ⇒ g @ (W ∪ dst.view.set))
      ∗ (src.view.loc c ↦[src.view.set]{q} fs)) (g := (c, sm))) $$ Hv with ⟨%γ, %δ, %κ, #Hinv, Hγ, Hδ⟩
  iapply (wp_enqueueDma_willBeTo (emb := emb) (ιwm := ιwm) 𝒱 c bd Set.univ ι N hN hadm) $$ [Hs Hwm Hd] [Hγ]
  · isplitl [Hs]; · iexact Hs
    isplitl [Hwm]; · iexact Hwm
    iexact Hd
  · iapply (flight_creditUpdate EC (δ := δ))
    isplitr; · iexact Hinv
    iexact Hγ
  iintro Hcred
  iapply Hk
  iapply (flight_intro EC c (κ := κ))
  isplitr; · iexact Hinv
  isplitl [Hδ] <;> iassumption

end Rules

end Cert.Proof.Ring
-- ==== Proof.Setup.lean ====
/-
  The setting of the kernel's proof: the program as the launch theorem takes it, the resource algebra (the launch
  handshakes, the write-mode record of the ring, the transfers' counters), and the buffers a task works on.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ShareLeaves
public import proofs.«01_k».proof.Proof.Spec
public import proofs.«01_k».proof.Proof.Ring

@[expose] public section

set_option maxRecDepth 16384

noncomputable section

namespace Cert.Proof.Setup

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open Idealize.SL.Sem
open Idealize.ShloMosaic.Rounds
open Cert.Proof.Ring (hO hT)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The facts about the launch semaphores and the SparseCores' buffers the launch theorem takes, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
/-- The launch handshakes; the write-mode record; the transfers' counters. -/
abbrev UU (F : FTy → Type) : Type := UH × (WmRA nD τ sig (Elt F) × Counters)

local notation "𝕄" => MT nD τ sig (HIx 1) (Elt F) ℕ (UU F) ℕ

def EH : Emb UH (MT nD τ sig (HIx 1) (Elt F) ℕ (UU F) ℕ) :=
  (Emb.inl : Emb UH (UU F)).trans (uEmb (nD := nD) (sig := sig) (Ix := HIx 1) (Val := Elt F) (Name := ℕ) (U := UU F) (Lvl := ℕ)).toEmb

instance EH_landsIn : (EH : Emb UH 𝕄).LandsIn (upEmb : UEmb _ 𝕄) := by unfold EH; infer_instance

/-- Where the write-mode record lives. -/
abbrev wmE : UEmb (WmRA nD τ sig (Elt F)) (UU F) :=
  (UEmb.inl : UEmb (WmRA nD τ sig (Elt F)) (WmRA nD τ sig (Elt F) × Counters)).trans UEmb.inr

/-! ## A task's buffers -/

abbrev rowsM : Memref sig .scVector .hbm S122968x128 .i32 := Memref.whole main_arg0_scv
abbrev offM : Memref sig .scVector .hbm S2048 .i32 := Memref.whole main_v0_scv
abbrev outM : Memref sig .scVector .hbm S1536x256 .f32 := Memref.whole main_v1_scv
/-- The ring of four windows, the task's results, its copy of the offsets. -/
abbrev ringM : Memref sig .scVector .vmem S352x128 .i32 := Memref.whole cc0_scratch0
abbrev accM : Memref sig .scVector .vmem S48x256 .f32 := Memref.whole cc0_scratch1
abbrev offV : Memref sig .scVector .vmem S2048 .i32 := Memref.whole cc0_scratch2

abbrev rowsLoc (d : Dev nD) : Loc nD τ sig := (SparseCore.T d).loc main_arg0
abbrev offsLoc (d : Dev nD) : Loc nD τ sig := (SparseCore.T d).loc main_v0
abbrev outLoc (d : Dev nD) : Loc nD τ sig := (SparseCore.T d).loc main_v1

abbrev cV (L : grid0.Coords) : Fin τ.nSC := (L 0).castLE hcore0
abbrev jV (L : grid0.Coords) : Fin τ.nSub := (L 1).castLE hsub0

/-- The task at coordinates `L` of device `d`. -/
abbrev thr (d : Dev nD) (L : grid0.Coords) : Thread nD τ := V d (cV L) (jV L)

/-- The owner's half of the whole ring, in write mode. -/
abbrev Rg (d : Dev nD) (L : grid0.Coords) (f : Buf (Elt F) ((thr d L).loc cc0_scratch0)) (g : Tgt (Elt F) ((thr d L).loc cc0_scratch0))
    (W : Finset (Idx ((thr d L).loc cc0_scratch0))) : sProp 𝕄 :=
  willBeTo wmE ((thr d L).loc cc0_scratch0) Finset.univ hO f g W

end Cert.Proof.Setup

end
-- ==== Proof.Inner.lean ====
/-
  The inner loop of the kernel: with the bag's window of the ring filled, it leaves the seventeen sums of the bag.
-/
module

public import proofs.«01_k».proof.Proof.Setup

@[expose] public section

set_option maxRecDepth 16384

noncomputable section

namespace Cert.Proof.Inner

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words Cert.Proof.Spec Cert.Proof.Setup

variable {F : FTy → Type} [FloatOps F]

local notation "𝕄" => MT nD τ sig (HIx 1) (Elt F) ℕ (UU F) ℕ

/-- The word the window of trip `k` holds at ring index `i`, when the bag's first position is `s`. -/
def want (R : Packed) (k s : Nat) (i : S352x128.Idx) : BitVec 32 := wd R (8 * (s / 8) + ((i 0).val - 88 * (k % 4))) (i 1).val

/-- Window `k % 4` of the ring, row by row. -/
def InWin (k : Nat) (i : S352x128.Idx) : Prop := 88 * (k % 4) ≤ (i 0).val ∧ (i 0).val < 88 * (k % 4) + 88

/-- Every element of the window is written, with the bag's rows. -/
def Filled (R : Packed) (k s : Nat) (g : S352x128.Idx → Option (BitVec 32)) (W : Finset S352x128.Idx) : Prop :=
  ∀ i, InWin k i → i ∈ W ∧ g i = some (want R k s i)

section

variable (d : Dev nD) (L : grid0.Coords) {R : Packed} {k s t : Nat}
variable {f : Buf (Elt F) ((thr d L).loc cc0_scratch0)} {g : Tgt (Elt F) ((thr d L).loc cc0_scratch0)} {W : Finset (Idx ((thr d L).loc cc0_scratch0))}
variable {ιwm : ℕ}

omit [FloatOps F] in
/-- What a load of the ring finds at the row of position `s + t`. -/
theorem cur_eq (hf : Filled R k s g W) {cur : Buf (Elt F) ((thr d L).loc cc0_scratch0)} {W' : Finset (Idx ((thr d L).loc cc0_scratch0))}
    (h : W ⊆ W' ∧ ∀ i ∈ (Finset.univ : Finset (Idx ((thr d L).loc cc0_scratch0))), (i ∉ W' → cur i = f i) ∧ (i ∈ W' → ∀ u, g i = some u → cur i = u))
    (ht : t < 80) (i : S352x128.Idx) (hi : (i 0).val = base k s + t) : cur i = wd R (s + t) (i 1).val := by
  have hb : base k s = 88 * (k % 4) + s % 8 := rfl
  obtain ⟨hW, hg⟩ := hf i ⟨by omega, by omega⟩
  have := (h.2 i (Finset.mem_univ _)).2 (h.1 hW) _ hg
  refine this.trans ?_
  unfold want
  rw [show 8 * (s / 8) + ((i 0).val - 88 * (k % 4)) = s + t by omega]

/-- A load of sixteen words of the row of position `s + t`. -/
theorem wp_ring_row {α : Type} {Q : α → sProp 𝕄} (hf : Filled R k s g W) (ht : t < 80) (q : Nat) {off : Fin 2 → Nat} (hoff : off = ![base k s + t, 16 * q])
    {hb : ∀ a, off a + S1x16.size a ≤ S352x128.size a} {hl : (ringM : Memref sig .scVector .vmem S352x128 .i32).view.LoadsAt (Rect.unit (s := S352x128) off S1x16.size hb).toLoadRect}
    {kk : Vec F S1x16 .i32 → Prog (TpuEff nD τ sig (Elt F) Λ₀ (thr d L).2) α} :
    iprop(wmInv wmE ιwm ∗ Rg d L f g W)
      ⊢ iprop((Rg d L f g W -∗ wp frame (wpE (defs₀ (F := F)) 𝒱₀ (thr d L) none) Set.univ (kk (fun i => wd R (s + t) (16 * q + (i 1).val))) Q)
        -∗ wp frame (wpE (defs₀ (F := F)) 𝒱₀ (thr d L) none) Set.univ
            (.op (.load ringM (Rect.unit (s := S352x128) off S1x16.size hb).toLoadRect hl) kk) Q) := by
  subst hoff
  iintro H Hk
  iapply (wp_load_willBeTo (emb := wmE) (defs := defs₀ (F := F)) 𝒱₀ (thr d L) none Set.univ (Q := Q) (m := ringM)
    (r := (Rect.unit (s := S352x128) ![base k s + t, 16 * q] S1x16.size hb).toLoadRect) (hl := hl) (k := kk) (f := f) (g := g) (W := W) (Finset.subset_univ _)) $$ H
  iintro %cur %W' %hcur H
  ispecialize Hk $$ H
  have heq : (ringM : Memref sig .scVector .vmem S352x128 .i32).view.readAt (Elt F) (Rect.unit (s := S352x128) ![base k s + t, 16 * q] S1x16.size hb).toLoadRect cur
      = (fun i => wd R (s + t) (16 * q + (i 1).val) : Vec F S1x16 .i32) := by
    funext x
    refine (cur_eq d L hf hcur ht ((Rect.unit (s := S352x128) ![base k s + t, 16 * q] S1x16.size hb).idx x) ?_).trans ?_
    · have : (x 0).val < 1 := (x 0).isLt
      show base k s + t + 1 * (x 0).val = _
      omega
    · show wd R (s + t) (16 * q + 1 * (x 1).val) = _
      rw [Nat.one_mul]
  rw [heq]
  iexact Hk

/-- A load, lane by lane, of one word of the row of position `s + t`: each lane gets that word. -/
theorem wp_ring_col {α : Type} {Q : α → sProp 𝕄} (hf : Filled R k s g W) (ht : t < 80) (c : Nat) {ri ci : IVec S16 32}
    (hri : ∀ x, (ri x).toNat = base k s + t) (hci : ∀ x, (ci x).toNat = c)
    {h : ∀ a x, ((![ri, ci] : Fin 2 → IVec S16 32) a x).toNat < S352x128.size a} {hl : (ringM : Memref sig .scVector .vmem S352x128 .i32).view.Loads}
    {kk : Vec F S16 .i32 → Prog (TpuEff nD τ sig (Elt F) Λ₀ (thr d L).2) α} :
    iprop(wmInv wmE ιwm ∗ Rg d L f g W)
      ⊢ iprop((Rg d L f g W -∗ wp frame (wpE (defs₀ (F := F)) 𝒱₀ (thr d L) none) Set.univ (kk (fun _ => wd R (s + t) c)) Q)
        -∗ wp frame (wpE (defs₀ (F := F)) 𝒱₀ (thr d L) none) Set.univ
            (SparseCore.vectorLoadIdx ringM ![ri, ci] h hl >>= kk) Q) := by
  rw [SparseCore.vectorLoadIdx_bind (c := thr d L) (Λ := Λ₀) ringM ![ri, ci] h hl kk]
  iintro H Hk
  iapply (wp_load_willBeTo (emb := wmE) (defs := defs₀ (F := F)) 𝒱₀ (thr d L) none Set.univ (Q := Q) (m := ringM)
    (r := .whole S352x128) (hl := View.loadsAt_whole hl) (k := fun v => kk (loadIdx v ![ri, ci] h)) (f := f) (g := g) (W := W) (Finset.subset_univ _)) $$ H
  iintro %cur %W' %hcur H
  ispecialize Hk $$ H
  have heq : loadIdx (s := S352x128) (e := .i32) ((ringM : Memref sig .scVector .vmem S352x128 .i32).view.readAt (Elt F) (.whole S352x128) cur) ![ri, ci] h
      = (fun _ => wd R (s + t) c : Vec F S16 .i32) := by
    refine (congrArg (fun v : Vec F S352x128 .i32 => (loadIdx (s := S352x128) (e := .i32) v ![ri, ci] h : Vec F S16 .i32))
      (Memref.readAt_whole (Elt F) (cc0_scratch0 : Ref sig .scVector) cur)).trans ?_
    funext x
    refine (cur_eq d L hf hcur ht (idxAt (s := S352x128) ![ri, ci] h x) ?_).trans ?_
    · exact hri x
    · show wd R (s + t) (ci x).toNat = _
      rw [hci]
  rw [heq]
  iexact Hk

variable (k' : Fin k0_t1_loop.trips) {s' e' : BitVec 32}

/-- The row a gather of the inner loop names, lane by lane. -/
theorem row_lane (hs : s'.toNat ≤ 122880) (he : e'.toNat ≤ 122880) (t : Fin (k0_t2_loop k' s' e' s').trips) (x : S16.Idx) :
    (k0_pay2 k0_pay108 k' s' e' s' (k0_t2_loop k' s' e' s').lb 1#32 t x).toNat = base k'.val s'.toNat + t.val := by
  show (0#32 + Scf.iv (k0_t2_loop k' s' e' s').lb 1#32 t.val).toNat = _
  rw [BitVec.zero_add, t2_iv k' hs he t]

theorem col64 : ∀ x : S16.Idx, (k0_pay3 k0_pay108 x).toNat = 64 := by decide +kernel
theorem col65 : ∀ x : S16.Idx, (k0_pay5 k0_pay108 x).toNat = 65 := by decide +kernel

theorem col_chk {b : Nat} (hb : b < 352) {c : Nat} (hc : c < 128) {ri ci : IVec S16 32} (hri : ∀ x, (ri x).toNat = b) (hci : ∀ x, (ci x).toNat = c) :
    ∀ a x, ((![ri, ci] : Fin 2 → IVec S16 32) a x).toNat < S352x128.size a := by
  intro a x
  fin_cases a
  · show (ri x).toNat < 352
    rw [hri]; exact hb
  · show (ci x).toNat < 128
    rw [hci]; exact hc

/-- One trip of the inner loop. -/
theorem t2_trip (hs : s'.toNat ≤ 122880) (he : e'.toNat ≤ 122880) (hf : Filled R k'.val s'.toNat g W) (v200 : BitVec 32)
    (hw6 : k0_chk6 k' s' e' s') (v260 v271 v273 v274 : BitVec 32) (v275 v276 : BitVec 1) (c0 : BitVec 32) (v2 : IVec S16 32)
    (t : Fin (k0_t2_loop k' s' e' s').trips) :
    iprop(wmInv wmE ιwm ∗ Rg d L f g W)
      ⊢ wp frame (wpE (defs₀ (F := F)) 𝒱₀ (thr d L) none) Set.univ
          (k0_t2_body L rowsM (Memref.isWhole_whole _) offM (Memref.isWhole_whole _) outM (Memref.isWhole_whole _)
            ringM (Memref.isWhole_whole _) accM (Memref.isWhole_whole _) offV (Memref.isWhole_whole _) cc0_scratch3 cc0_scoped0 cc0_scoped1
            v2 k0_pay108 k0_pay109 k' v200 s' e' s' hw6 v260 v271 v273 v274 v275 v276 c0 (k0_t2_loop k' s' e' s').lb t (tup R s'.toNat t.val))
          (fun r => iprop(⌜r = tup R s'.toNat (t.val + 1)⌝ ∗ wmInv wmE ιwm ∗ Rg d L f g W)) := by
  have ht : t.val < 80 := lt_of_lt_of_le (lt_of_lt_of_eq t.isLt (t2_trips k' hs he)) (len_le _ _)
  have hb := base_lt k'.val s'.toNat
  unfold k0_t2_body tup
  simp only [k0_part1_eq_skeleton, k0_part2_eq_skeleton]
  unfold k0_part1_skel k0_part2_skel
  simp only [Prog.lift, Prog.bind_op, Prog.bind_ret, Prog.pure_eq_ret, Prog.bind_assoc]
  iintro ⟨#Hwm, Hr⟩
  rw [wp_assume_of _ _ _ _ (show k0_chk7 _ _ from col_chk (b := base k'.val s'.toNat + t.val) (c := 64) (by omega) (by omega) (row_lane k' hs he t) col64)]
  iapply (wp_ring_col d L hf ht 64 (row_lane k' hs he t) col64) $$ [Hr]
  · isplitr; · iexact Hwm
    iexact Hr
  iintro Hr
  rw [wp_assume_of _ _ _ _ (show k0_chk8 _ _ from col_chk (b := base k'.val s'.toNat + t.val) (c := 65) (by omega) (by omega) (row_lane k' hs he t) col65)]
  iapply (wp_ring_col d L hf ht 65 (row_lane k' hs he t) col65) $$ [Hr]
  · isplitr; · iexact Hwm
    iexact Hr
  iintro Hr
  iapply (wp_ring_row d L hf ht 0 (off22_eq k' hs he t)) $$ [Hr]
  · isplitr; · iexact Hwm
    iexact Hr
  iintro Hr
  iapply (wp_ring_row d L hf ht 1 (off23_eq k' hs he t)) $$ [Hr]
  · isplitr; · iexact Hwm
    iexact Hr
  iintro Hr
  iapply (wp_ring_row d L hf ht 2 (off24_eq k' hs he t)) $$ [Hr]
  · isplitr; · iexact Hwm
    iexact Hr
  iintro Hr
  iapply (wp_ring_row d L hf ht 3 (off25_eq k' hs he t)) $$ [Hr]
  · isplitr; · iexact Hwm
    iexact Hr
  iintro Hr
  rw [wp_ret]; imodintro
  isplitr
  · ipureintro
    exact trip_eq ⟨rfl, rfl, rfl, rfl, rfl, rfl⟩
  isplitr; · iexact Hwm
  iexact Hr

/-- The inner loop at the head of a program: the program goes on with the bag's seventeen sums. -/
theorem t2_loop {α : Type} {Q : α → sProp 𝕄} (hs : s'.toNat ≤ 122880) (he : e'.toNat ≤ 122880) (hf : Filled R k'.val s'.toNat g W) (v200 : BitVec 32)
    (hw6 : k0_chk6 k' s' e' s') (v260 v271 v273 v274 : BitVec 32) (v275 v276 : BitVec 1) (c0 : BitVec 32) (v2 : IVec S16 32)
    {kk : _ → Prog (TpuEff nD τ sig (Elt F) Λ₀ (thr d L).2) α} :
    iprop(wmInv wmE ιwm ∗ Rg d L f g W)
      ⊢ iprop((Rg d L f g W -∗ wp frame (wpE (defs₀ (F := F)) 𝒱₀ (thr d L) none) Set.univ (kk (tup R s'.toNat (len s'.toNat e'.toNat))) Q)
        -∗ wp frame (wpE (defs₀ (F := F)) 𝒱₀ (thr d L) none) Set.univ
          (Scf.Loop.for (k0_t2_loop k' s' e' s') (k0_t2_ok k' s' e' s' hw6) (tup R s'.toNat 0)
            (k0_t2_body L rowsM (Memref.isWhole_whole _) offM (Memref.isWhole_whole _) outM (Memref.isWhole_whole _)
              ringM (Memref.isWhole_whole _) accM (Memref.isWhole_whole _) offV (Memref.isWhole_whole _) cc0_scratch3 cc0_scoped0 cc0_scoped1
              v2 k0_pay108 k0_pay109 k' v200 s' e' s' hw6 v260 v271 v273 v274 v275 v276 c0 (k0_t2_loop k' s' e' s').lb) >>= kk) Q) := by
  iintro ⟨#Hwm, Hr⟩ Hk
  iapply (Scf.wp_for_bind frame (wpE (defs₀ (F := F)) 𝒱₀ (thr d L) none) Set.univ (k0_t2_loop k' s' e' s').lb (k0_t2_loop k' s' e' s').ub (k0_t2_loop k' s' e' s').st
    (k0_t2_ok k' s' e' s' hw6) (tup R s'.toNat 0) _ (fun m acc => iprop(⌜acc = tup R s'.toNat m⌝ ∗ wmInv wmE ιwm ∗ Rg d L f g W)) ?hb) $$ [Hr]
  case hb =>
    intro t acc
    iintro ⟨%hacc, H⟩
    subst hacc
    iapply (t2_trip d L k' hs he hf v200 hw6 v260 v271 v273 v274 v275 v276 c0 v2 t) $$ H
  · isplitr
    · ipureintro; rfl
    isplitr; · iexact Hwm
    iexact Hr
  iintro %acc ⟨%hacc, -, Hr⟩
  have htr : Scf.trips (k0_t2_loop k' s' e' s').lb (k0_t2_loop k' s' e' s').ub (k0_t2_loop k' s' e' s').st = len s'.toNat e'.toNat := t2_trips k' hs he
  rw [htr] at hacc
  subst hacc
  iapply Hk $$ Hr

end

end Cert.Proof.Inner

end
-- ==== Proof.Slots.lean ====
/-
  One window of the ring: idle between bags, or with a copy of a bag's rows on its way into it. The copy that fills a window,
  and the wait that takes it back.
-/
module

public import proofs.«01_k».proof.Proof.Inner

@[expose] public section

set_option maxRecDepth 16384

noncomputable section

namespace Cert.Proof.Slots

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Proof.Words Cert.Proof.Spec Cert.Proof.Setup Cert.Proof.Inner
open Cert.Proof.Ring (hO hT)

variable {F : FTy → Type} [FloatOps F]

local notation "𝕄" => MT nD τ sig (HIx 1) (Elt F) ℕ (UU F) ℕ

/-! ## The windows -/

/-- A window of the ring, 88 rows from the offset on. -/
abbrev winM (off : Fin 2 → Nat) (h : ∀ a, off a + S88x128.size a ≤ S352x128.size a) : Memref sig .scVector .vmem S88x128 .i32 :=
  ringM.slice (Rect.unit (s := S352x128) off S88x128.size h) (fun _ => rfl)

/-- 88 rows of the array of rows. -/
abbrev srcM (off : Fin 2 → Nat) (h : ∀ a, off a + S88x128.size a ≤ S122968x128.size a) : Memref sig .scVector .hbm S88x128 .i32 :=
  rowsM.slice (Rect.unit (s := S122968x128) off S88x128.size h) (fun _ => rfl)

/-- One of the four semaphores. -/
abbrev semM (off : Fin 1 → Nat) (h : ∀ a, off a + S1.size a ≤ S4.size a) : DmaSem sig :=
  ((cc0_scratch3.slice (Rect.unit (s := S4) off S1.size h)).squeeze S_ squeezes_S1_S_).sem

theorem win_inb (j : Fin 4) : ∀ a, (![88 * j.val, 0] : Fin 2 → Nat) a + S88x128.size a ≤ S352x128.size a := by
  intro a; have := j.isLt; fin_cases a
  · show 88 * j.val + 88 ≤ 352; omega
  · show 0 + 128 ≤ 128; omega

theorem sem_inb (j : Fin 4) : ∀ a, (![j.val] : Fin 1 → Nat) a + S1.size a ≤ S4.size a := by
  intro a; have := j.isLt; fin_cases a
  show j.val + 1 ≤ 4; omega

/-- Semaphore `j`. -/
abbrev semJ (j : Fin 4) : SemLoc sig := .dma (semM ![j.val] (sem_inb j))

/-- The indices of window `j`. -/
def winS (j : Fin 4) : Finset S352x128.Idx := Finset.univ.filter fun i => 88 * j.val ≤ (i 0).val ∧ (i 0).val < 88 * j.val + 88

theorem mem_winS (j : Fin 4) (i : S352x128.Idx) : i ∈ winS j ↔ 88 * j.val ≤ (i 0).val ∧ (i 0).val < 88 * j.val + 88 := by
  simp [winS]

theorem win_set (j : Fin 4) : (winM ![88 * j.val, 0] (win_inb j)).view.set = winS j := by
  ext i
  rw [mem_winS]
  have h : (winM ![88 * j.val, 0] (win_inb j)).view.set = (Rect.unit (s := S352x128) ![88 * j.val, 0] S88x128.size (win_inb j)).set :=
    View.set_slice_whole cc0_scratch0 _
  rw [h, Rect.mem_set_unit]
  constructor
  · intro h; exact h 0
  · intro h a
    fin_cases a
    · exact h
    · exact ⟨Nat.zero_le _, by have : (i 1).val < 128 := (i 1).isLt; show (i 1).val < 0 + 128; omega⟩

theorem winS_disjoint {j j' : Fin 4} (h : j ≠ j') : Disjoint (winS j) (winS j') := by
  rw [Finset.disjoint_left]; intro i h1 h2
  rw [mem_winS] at h1 h2
  exact h (Fin.ext (by omega))

theorem winS_union : winS 0 ∪ winS 1 ∪ winS 2 ∪ winS 3 = Finset.univ := by
  ext i
  simp only [Finset.mem_union, mem_winS, Finset.mem_univ, iff_true]
  have : (i 0).val < 352 := (i 0).isLt
  show ((_ ∨ _) ∨ _) ∨ _
  simp only [Fin.val_zero, Fin.val_one, Fin.val_two, show ((3 : Fin 4).val) = 3 from rfl]
  omega

/-- What the copy for the bag with first position `s` leaves in the ring. -/
def target (R : Packed) (s : Nat) : S352x128.Idx → Option (BitVec 32) := fun i => some (wd R (8 * (s / 8) + (i 0).val % 88) (i 1).val)

theorem filled_of {R : Packed} {k s : Nat} {j : Fin 4} (hj : j.val = k % 4) {g : S352x128.Idx → Option (BitVec 32)} {W : Finset S352x128.Idx}
    (hg : ∀ i ∈ winS j, g i = target R s i) (hW : winS j ⊆ W) : Filled R k s g W := by
  intro i hi
  have hm : i ∈ winS j := (mem_winS j i).2 (by rw [hj]; exact hi)
  refine ⟨hW hm, ?_⟩
  rw [hg i hm]; unfold target want
  obtain ⟨h1, h2⟩ := hi
  rw [show (i 0).val % 88 = (i 0).val - 88 * (k % 4) by omega]

theorem admitted {R : Packed} {s : Nat} (hs : s ≤ 122880) (j : Fin 4) (d : Dev nD) (L : grid0.Coords) :
    (winM ![88 * j.val, 0] (win_inb j)).view.Admitted (Elt F) (target R s)
      ((srcM ![8 * (s / 8), 0] (rows_inb hs)).view.read (Elt F) R) Finset.univ := by
  refine (View.admitted_some_iff).2 ?_
  intro x _
  have hx : (x 0).val < 88 := (x 0).isLt
  have hy : (x 1).val < 128 := (x 1).isLt
  have e0 : (((winM ![88 * j.val, 0] (win_inb j)).view.emb x) 0).val = 88 * j.val + 1 * (x 0).val := rfl
  have e1 : (((winM ![88 * j.val, 0] (win_inb j)).view.emb x) 1).val = 0 + 1 * (x 1).val := rfl
  show R ((srcM ![8 * (s / 8), 0] (rows_inb hs)).view.emb x) = _
  show _ = wd R (8 * (s / 8) + (((winM ![88 * j.val, 0] (win_inb j)).view.emb x) 0).val % 88) (((winM ![88 * j.val, 0] (win_inb j)).view.emb x) 1).val
  rw [e0, e1, show 8 * (s / 8) + (88 * j.val + 1 * (x 0).val) % 88 = 8 * (s / 8) + (x 0).val by omega, show 0 + 1 * (x 1).val = (x 1).val by omega]
  unfold wd
  rw [dif_pos ⟨by omega, hy⟩]
  refine congrArg R (funext fun a => ?_)
  fin_cases a
  · exact Fin.ext (show 8 * (s / 8) + 1 * (x 0).val = _ by show _ = 8 * (s / 8) + (x 0).val; omega)
  · exact Fin.ext (show 0 + 1 * (x 1).val = (x 1).val by omega)

section

variable (d : Dev nD) (L : grid0.Coords) (R : Packed) (q : PosShare TreeShare)

/-- What one copy into a window credits. -/
abbrev NW : ℕ := (winM ![88 * (0 : Fin 4).val, 0] (win_inb 0)).view.dmaCredit

theorem NW_pos : 0 < NW := View.dmaCredit_pos _ (by decide)

abbrev rowsAt : Loc nD τ sig := (thr d L).loc main_arg0_scv

/-- Window `j`'s half, its semaphore at zero, and the share of the rows a copy into it reads. -/
def Idle (j : Fin 4) : sProp 𝕄 :=
  iprop(semVal (thr d L, semJ j) 0 ∗ (rowsAt d L ↦{q} R)
    ∗ ∃ f g W, willBeTo wmE ((thr d L).loc cc0_scratch0) (winS j) hT f g W)

/-- Window `j` filled with the rows of the bag that starts at `s`. -/
def Full (j : Fin 4) (s : Nat) : sProp 𝕄 :=
  iprop(semVal (thr d L, semJ j) 0 ∗ (rowsAt d L ↦{q} R)
    ∗ ∃ f, willBeTo wmE ((thr d L).loc cc0_scratch0) (winS j) hT f (target R s) (winS j))

/-- Window `j` with the copy of that bag's rows under way. -/
def Busy (j : Fin 4) (s : Nat) : sProp 𝕄 :=
  iprop(∃ f I, Flight countersEmb (thr d L) (semJ j) (default : HIx 1) NW
      iprop(willBeTo wmE ((thr d L).loc cc0_scratch0) (winS j) hT f (target R s) (winS j) ∗ (rowsAt d L ↦[I]{q} R))
    ∗ (rowsAt d L ↦[Finset.univ \ I]{q} R))

variable {ιwm : ℕ}

/-- The copy of a bag's rows into window `j`. -/
theorem wp_issue {α} {Q : α → sProp 𝕄} (j : Fin 4) {s : Nat} (hs : s ≤ 122880) {o1 o2 : Fin 2 → Nat} {o3 : Fin 1 → Nat} (e1 : o1 = ![88 * j.val, 0])
    (e2 : o2 = ![8 * (s / 8), 0]) (e3 : o3 = ![j.val]) {h1 h2 h3} {hsrc hdst hsem}
    {k : PUnit → Prog (TpuEff nD τ sig (Elt F) Λ₀ (.scVector ((L 0).castLE hcore0) ((L 1).castLE hsub0))) α} :
    iprop(wmInv wmE ιwm ∗ (∃ f g W, Rg (F := F) d L f g W) ∗ Idle (F := F) d L R q j)
      ⊢ iprop(((∃ f g W, Rg (F := F) d L f g W) ∗ Busy (F := F) d L R q j s -∗ wp frame (wpE (defs₀ (F := F)) 𝒱₀ (thr d L) none) Set.univ (k ⟨⟩) Q)
          -∗ wp frame (wpE (defs₀ (F := F)) 𝒱₀ (thr d L) none) Set.univ
            (.op (.enqueueDma (srcM o2 h2) (.here (winM o1 h1)) (.dma (semM o3 h3)) hsrc hdst hsem) k) Q) := by
  subst e1 e2 e3
  unfold Idle Busy
  iintro ⟨#Hwm, ⟨%f, %g, %W, Ho⟩, Hsem, Hrow, ⟨%f', %g', %W', Ht⟩⟩ Hk
  imod (Ring.retarget (emb := wmE) (ιwm := ιwm) (ℓ := (thr d L).loc cc0_scratch0) (Finset.subset_univ (winS j)) (target R s)) $$ [Ho Ht] with ⟨%f₁, %g₁, %W₁, Ho, Ht⟩
  · isplitr; · iexact Hwm
    isplitl [Ho]; · iexact Ho
    iexact Ht
  ihave Hrow := (pointsTo_split_subset (Finset.subset_univ ((srcM ![8 * (s / 8), 0] h2).view.set))).1 $$ Hrow
  icases Hrow with ⟨Hs, Hrest⟩
  rw [← win_set j]
  iapply (Ring.wp_dma_wm (emb := wmE) (ιwm := ιwm) 𝒱₀ (thr d L) none countersEmb (src := srcM ![8 * (s / 8), 0] h2) (dst := winM ![88 * j.val, 0] (win_inb j))
    (default : HIx 1) NW rfl NW_pos (admitted (R := R) hs j d L)) $$ [Hs Ht Hsem]
  · isplitl [Hs]; · iexact Hs
    isplitr; · iexact Hwm
    isplitl [Ht]; · iexact Ht
    iexact Hsem
  iintro Hfl
  iapply Hk
  isplitl [Ho]; · iexists f₁, g₁, W₁; iexact Ho
  iexists f₁, (srcM ![8 * (s / 8), 0] h2).view.set
  rw [Finset.empty_union]
  isplitl [Hfl]; · iexact Hfl
  iexact Hrest

/-- The wait for the copy into window `j`. -/
theorem wp_wait {α} {Q : α → sProp 𝕄} (j : Fin 4) {s : Nat} {o1 o2 : Fin 2 → Nat} {o3 : Fin 1 → Nat} (e1 : o1 = ![88 * j.val, 0])
    (e3 : o3 = ![j.val]) {h1 h2 h3} {hsrc hdst} {O W}
    {k : PUnit → Prog (TpuEff nD τ sig (Elt F) Λ₀ (.scVector ((L 0).castLE hcore0) ((L 1).castLE hsub0))) α} :
    iprop(MayWaits (thr d L) (default : HIx 1) O ∗ Busy (F := F) d L R q j s ∗ owes (thr d L) O W)
      ⊢ iprop((Full (F := F) d L R q j s ∗ owes (thr d L) O (insert (semJ j, (default : HIx 1)) W) -∗ wp frame (wpE (defs₀ (F := F)) 𝒱₀ (thr d L) none) Set.univ (k ⟨⟩) Q)
          -∗ wp frame (wpE (defs₀ (F := F)) 𝒱₀ (thr d L) none) Set.univ
            (.op (.waitDma2 (semM o3 h3) (srcM o2 h2) (winM o1 h1) hsrc hdst) k) Q) := by
  subst e1 e3
  unfold Full Busy
  iintro ⟨#Hmw, ⟨%f, %I, Hfl, Hrest⟩, HO⟩ Hk
  ihave Hm := (MayWaits.elim (semJ j)) $$ Hmw
  iapply (wp_waitLocalO countersEmb 𝒱₀ (thr d L) none (default : HIx 1) (rfl : (winM ![88 * j.val, 0] h1).view.dmaCredit = NW)) $$ [Hfl HO Hm]
  · isplitl [Hfl]; · iexact Hfl
    isplitl [HO]; · iexact HO
    iexact Hm
  iintro ⟨⟨Ht, Hs⟩, Hsem, HO⟩
  iapply Hk
  isplitr [HO]
  · isplitl [Hsem]; · iexact Hsem
    isplitl [Hs Hrest]
    · iapply (pointsTo_split_subset (Finset.subset_univ I)).2
      isplitl [Hs]; · iexact Hs
      iexact Hrest
    · iexists f; iexact Ht
  iexact HO

/-- A filled window is idle once nothing more is copied into it. -/
theorem full_idle (j : Fin 4) (s : Nat) : Full (F := F) d L R q j s ⊢ Idle (F := F) d L R q j := by
  unfold Full Idle
  iintro ⟨Hsem, Hr, ⟨%f, Ht⟩⟩
  isplitl [Hsem]; · iexact Hsem
  isplitl [Hr]; · iexact Hr
  iexists f, (target R s), (winS j); iexact Ht

/-- With window `k % 4` filled, the ring's owner sees the bag's rows there. -/
theorem full_filled (j : Fin 4) {k s : Nat} (hj : j.val = k % 4) :
    iprop((∃ f g W, Rg (F := F) d L f g W) ∗ Full (F := F) d L R q j s)
      ⊢ iprop((∃ f g W, ⌜Filled R k s g W⌝ ∗ Rg (F := F) d L f g W) ∗ Idle (F := F) d L R q j) := by
  unfold Full Idle
  iintro ⟨⟨%f, %g, %W, Ho⟩, Hsem, Hr, ⟨%f', Ht⟩⟩
  ihave H := (Ring.learn (emb := wmE) (ℓ := (thr d L).loc cc0_scratch0) (Finset.subset_univ (winS j))) $$ [Ho Ht]
  · isplitl [Ho]; · iexact Ho
    iexact Ht
  icases H with ⟨%h, Ho, Ht⟩
  isplitl [Ho]
  · iexists f, g, _
    isplitr
    · ipureintro
      refine filled_of hj (fun i hi => (h i hi).2) (W := W ∪ winS j ∩ winS j) ?_
      rw [Finset.inter_self]; exact Finset.subset_union_right
    · iexact Ho
  isplitl [Hsem]; · iexact Hsem
  isplitl [Hr]; · iexact Hr
  iexists _, _, _; iexact Ht

end

end Cert.Proof.Slots

end
-- ==== Proof.Trip.lean ====
/-
  One bag: wait for its rows, sum them, scatter the 256 sums into the task's results, and start the copy of the bag four later.
-/
module

public import proofs.«01_k».proof.Proof.Slots

@[expose] public section

set_option maxRecDepth 16384

noncomputable section

namespace Cert.Proof.Trip

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Proof.Words Cert.Proof.Spec Cert.Proof.Setup Cert.Proof.Inner Cert.Proof.Slots

variable {F : FTy → Type} [FloatOps F]

local notation "𝕄" => MT nD τ sig (HIx 1) (Elt F) ℕ (UU F) ℕ

/-! ## The offsets -/

/-- Entry `n` of the padded offsets. -/
def ow (O : S2048.Idx → BitVec 32) (n : Nat) : BitVec 32 := if h : n < 2048 then O (fun | 0 => ⟨n, h⟩) else 0#32

/-- Every offset that bounds a bag is a position. -/
def InRange (O : S2048.Idx → BitVec 32) : Prop := ∀ n, n ≤ 1536 → (ow O n).toNat ≤ 122880

/-- The first bag of the task. -/
def bag0 (L : grid0.Coords) : Nat := 768 * (L 0).val + 48 * (L 1).val

theorem bag0_le (L : grid0.Coords) : bag0 L + 48 ≤ 1536 := by
  have h0 : (L 0).val < 2 := (L 0).isLt
  have h1 : (L 1).val < 16 := (L 1).isLt
  unfold bag0; omega

/-- First position of the task's bag `r`. -/
def st (O : S2048.Idx → BitVec 32) (L : grid0.Coords) (r : Nat) : Nat := (ow O (bag0 L + r)).toNat

theorem st_le {O : S2048.Idx → BitVec 32} (hO : InRange O) (L : grid0.Coords) {r : Nat} (hr : r ≤ 48) : st O L r ≤ 122880 :=
  hO _ (by have := bag0_le L; omega)

/-- What the task's results hold at row `r`, column `c`. -/
def res (R : Packed) (O : S2048.Idx → BitVec 32) (L : grid0.Coords) (r c : Nat) : F .f32 := outAt R (st O L r) (st O L (r + 1)) c

section

variable (d : Dev nD) (L : grid0.Coords) (R : Packed) (O : S2048.Idx → BitVec 32)

abbrev offP : sProp 𝕄 := (thr d L).loc cc0_scratch2 ↦{fullShare} O

/-- A load of sixteen offsets. -/
theorem wp_off {α} {Q : α → sProp 𝕄} {n : Nat} {off : Fin 1 → Nat} (e : off = ![n]) {h} {hl}
    {k : Vec F S16 .i32 → Prog (TpuEff nD τ sig (Elt F) Λ₀ (.scVector ((L 0).castLE hcore0) ((L 1).castLE hsub0))) α} :
    (offP (F := F) d L O : sProp 𝕄)
      ⊢ iprop((∀ v : S16.Idx → BitVec 32, ⌜∀ x, v x = ow O (n + (x 0).val)⌝ -∗ offP (F := F) d L O -∗ wp frame (wpE (defs₀ (F := F)) 𝒱₀ (thr d L) none) Set.univ (k v) Q)
          -∗ wp frame (wpE (defs₀ (F := F)) 𝒱₀ (thr d L) none) Set.univ
            (.op (.load offV (Rect.unit (s := S2048) off S16.size h).toLoadRect hl) k) Q) := by
  subst e
  iintro H Hk
  iapply (wp_load (defs := defs₀ (F := F)) 𝒱₀ (thr d L) none Set.univ (Q := Q) (m := offV) (r := (Rect.unit (s := S2048) ![n] S16.size h).toLoadRect) (hl := hl) (k := k)
    (S := Finset.univ) (q := fullShare) (f := O) (Finset.subset_univ _)) $$ H
  iintro H
  ispecialize Hk $$ %((offV : Memref sig .scVector .vmem S2048 .i32).view.readAt (Elt F) (Rect.unit (s := S2048) ![n] S16.size h).toLoadRect O)
  iapply Hk $$ [] H
  ipureintro
  intro x
  have hx : (x 0).val < 16 := (x 0).isLt
  have hn : n + 16 ≤ 2048 := h 0
  unfold ow
  rw [dif_pos (by omega)]
  refine congrArg O (funext fun a => ?_)
  fin_cases a
  exact Fin.ext (show n + 1 * (x 0).val = n + (x 0).val by omega)

omit [FloatOps F] in
/-- The first of sixteen offsets, and the second. -/
theorem first {n : Nat} {v : S16.Idx → BitVec 32} (hv : ∀ x, v x = ow O (n + (x 0).val)) :
    extractAt ![0] (extractStridedSlice S1 ![0] v slices_S16_o0_S1) inpos_S1_p0 = ow O n :=
  (hv _).trans (congrArg (ow O) (Nat.add_zero n))

omit [FloatOps F] in
theorem second {n : Nat} {v : S16.Idx → BitVec 32} (hv : ∀ x, v x = ow O (n + (x 0).val)) :
    extractAt ![0] (extractStridedSlice S1 ![1] v slices_S16_o1_S1) inpos_S1_p0 = ow O (n + 1) :=
  (hv _).trans (congrArg (ow O) rfl)

/-! ## The scatters -/

abbrev accP (acc : S48x256.Idx → F .f32) : sProp 𝕄 := (thr d L).loc cc0_scratch1 ↦{fullShare} acc

/-- The results' buffer, right in the rows before `k` and in the columns of the first `n` scatters of row `k`. -/
def Acc (k n : Nat) : sProp 𝕄 := iprop(∃ acc : S48x256.Idx → F .f32, ⌜Done (res (F := F) R O L) k n acc⌝ ∗ accP (F := F) d L acc)

/-- Scatter `n` of bag `k`. -/
theorem wp_put {α} {Q : α → sProp 𝕄} (k : Fin k0_t1_loop.trips) (n : Nat) (hn : n < 16) {v : FVec F S16 .f32} {h hs}
    (hv : ∀ x : S16.Idx, v x = res (F := F) R O L k.val (col n (x 0).val))
    {kk : PUnit → Prog (TpuEff nD τ sig (Elt F) Λ₀ (.scVector ((L 0).castLE hcore0) ((L 1).castLE hsub0))) α} :
    (Acc (F := F) d L R O k.val n : sProp 𝕄)
      ⊢ iprop((Acc (F := F) d L R O k.val (n + 1) -∗ wp frame (wpE (defs₀ (F := F)) 𝒱₀ (thr d L) none) Set.univ (kk ⟨⟩) Q)
          -∗ wp frame (wpE (defs₀ (F := F)) 𝒱₀ (thr d L) none) Set.univ
            (SparseCore.vectorStoreIdx accM ![rowVec (rowWord k), colVec (BitVec.ofNat 32 (64 * (n / 4))) (BitVec.ofNat 32 (n % 4))]
              v (fun _ => 1#1) false h hs >>= kk) Q) := by
  unfold Acc
  iintro ⟨%acc, %hd, H⟩ Hk
  have hset : ((accM : Memref sig .scVector .vmem S48x256 .f32).access (.whole S48x256)).set = Finset.univ := by
    simp only [Memref.access, Memref.view_whole, View.set_slice_whole]; exact Rect.set_whole _
  iapply (SparseCore.wp_vectorStoreIdx (defs := defs₀ (F := F)) (c := thr d L) 𝒱₀ none Set.univ (base := accM) (f := acc)) $$ [H]
  · rw [hset]; iexact H
  iintro H
  rw [hset]
  iapply Hk
  iexists _
  isplitr
  rotate_left
  · iexact H
  · ipureintro
    have hd' := done_put hn (rowVec (rowWord k)) (colVec (BitVec.ofNat 32 (64 * (n / 4))) (BitVec.ofNat 32 (n % 4))) v h
      (rowVec_toNat k) (colVec_toNat ⟨n, hn⟩) hv hd
    have e1 := Memref.read_access_whole (Elt F) cc0_scratch1 acc
    have e2 := Memref.write_access_whole_univ (Elt F) cc0_scratch1 acc
      (storeIdx (s := S48x256) (e := .f32) acc ![rowVec (rowWord k), colVec (BitVec.ofNat 32 (64 * (n / 4))) (BitVec.ofNat 32 (n % 4))] v (fun _ => 1#1) false h)
    rw [← e2] at hd'
    refine Eq.mp (congrArg _ ?_) hd'
    refine congrArg (fun z => View.write (Elt F) (accM.access (.whole S48x256)) acc (storeIdx (s := S48x256) (e := .f32) z _ v (fun _ => 1#1) false h) Finset.univ) e1.symm

omit [FloatOps F] in
/-- A loop of no trips. -/
theorem wp_rest {α σ : Type} {Q : α → sProp 𝕄} (k : Fin k0_t1_loop.trips) (s e s2 : BitVec 32) (hok : (k0_t3_loop k s e s2).OK) (init : σ) [FloatOps F]
    (body : Fin (k0_t3_loop k s e s2).trips → σ → Prog (TpuEff nD τ sig (Elt F) Λ₀ (thr d L).2) σ)
    {kk : σ → Prog (TpuEff nD τ sig (Elt F) Λ₀ (thr d L).2) α} :
    wp frame (wpE (defs₀ (F := F)) 𝒱₀ (thr d L) none) Set.univ (kk init) Q
      ⊢ wp frame (wpE (defs₀ (F := F)) 𝒱₀ (thr d L) none) Set.univ (Scf.Loop.for (k0_t3_loop k s e s2) hok init body >>= kk) Q := by
  iintro H
  iapply (Scf.wp_for_bind frame (wpE (defs₀ (F := F)) 𝒱₀ (thr d L) none) Set.univ (k0_t3_loop k s e s2).lb (k0_t3_loop k s e s2).ub (k0_t3_loop k s e s2).st
    hok init body (fun _ acc => iprop(⌜acc = init⌝)) ?hb) $$ []
  case hb =>
    intro t acc
    exact absurd (lt_of_lt_of_eq t.isLt (t3_trips k s e s2)) (Nat.not_lt_zero _)
  · ipureintro; rfl
  iintro %acc %hacc
  subst hacc
  iexact H

/-! ## The windows between trips -/

/-- The next bag whose rows go to window `j`, when bag `k` is next. -/
def nxt (k : Nat) (j : Fin 4) : Nat := k + (j.val + 4 - k % 4) % 4

/-- Window `j` before bag `n` is summed: its rows are on their way, unless there is no such bag. -/
def Slot (q : Fin 4 → PosShare TreeShare) (j : Fin 4) (n : Nat) : sProp 𝕄 :=
  if n < 48 then Busy (F := F) d L R (q j) j (st O L n) else Idle (F := F) d L R (q j) j

def Slots (q : Fin 4 → PosShare TreeShare) (k : Nat) : sProp 𝕄 := bigSep Finset.univ fun j => Slot (F := F) d L R O q j (nxt k j)

/-- Trip `k` takes the window of bag `k`, and gives it back as the window of bag `k + 4`. -/
theorem slots_take (q : Fin 4 → PosShare TreeShare) {k : Nat} (hk : k < 48) (j : Fin 4) (hj : j.val = k % 4) :
    (Slots (F := F) d L R O q k : sProp 𝕄)
      ⊢ iprop(Busy (F := F) d L R (q j) j (st O L k) ∗ (Slot (F := F) d L R O q j (k + 4) -∗ Slots (F := F) d L R O q (k + 1))) := by
  unfold Slots
  rw [SparseCore.bigSep_erase' (Finset.mem_univ j), SparseCore.bigSep_erase' (s := Finset.univ) (Finset.mem_univ j)]
  have e1 : nxt k j = k := by unfold nxt; omega
  have e2 : nxt (k + 1) j = k + 4 := by unfold nxt; omega
  have e3 : (bigSep (Finset.univ.erase j) fun j => Slot (F := F) d L R O q j (nxt k j)) = bigSep (Finset.univ.erase j) fun j => Slot (F := F) d L R O q j (nxt (k + 1) j) := by
    refine BI.bigSep_congr fun i hi => ?_
    have hne : i ≠ j := Finset.ne_of_mem_erase hi
    have hne' : i.val ≠ j.val := fun h => hne (Fin.ext h)
    have := i.isLt
    rw [show nxt k i = nxt (k + 1) i by unfold nxt; omega]
  rw [e1, e2, e3]
  iintro ⟨Hs, Hr⟩
  isplitl [Hs]
  · iapply (Entails.of_eq (show Slot (F := F) d L R O q j k = Busy (F := F) d L R (q j) j (st O L k) from if_pos hk)) $$ Hs
  iintro Hs
  isplitl [Hs]; · iexact Hs
  iexact Hr

/-! ## A trip -/

/-- What the task holds between trips, before bag `k`. -/
def Inv (q : Fin 4 → PosShare TreeShare) (Ob : CellTallies nD τ sig (HIx 1)) (Wt : Finset (SemLoc sig × HIx 1)) (k : Nat) : sProp 𝕄 :=
  iprop((∃ f g W, Rg (F := F) d L f g W) ∗ offP (F := F) d L O ∗ Acc (F := F) d L R O k 0 ∗ Slots (F := F) d L R O q k
    ∗ ∃ W', ⌜∀ p ∈ W', p ∈ Wt ∨ p.2 = none⌝ ∗ owes (thr d L) Ob W')

theorem Acc_next {k : Nat} : (Acc (F := F) d L R O k 16 : sProp 𝕄) ⊢ Acc (F := F) d L R O (k + 1) 0 := by
  unfold Acc
  iintro ⟨%acc, %h, H⟩
  iexists acc
  isplitr; · ipureintro; exact h.next
  iexact H

set_option maxHeartbeats 4000000 in
/-- One trip of the loop over the task's bags. -/
theorem t1_trip {ιwm : ℕ} (hO : InRange O) (q : Fin 4 → PosShare TreeShare) (Ob : CellTallies nD τ sig (HIx 1)) (Wt : Finset (SemLoc sig × HIx 1)) (v1 : BitVec 32)
    (k : Fin k0_t1_loop.trips) :
    iprop(wmInv wmE ιwm ∗ MayWaits (thr d L) (default : HIx 1) Ob ∗ Inv (F := F) d L R O q Ob Wt k.val)
      ⊢ wp frame (wpE (defs₀ (F := F)) 𝒱₀ (thr d L) none) Set.univ
          (k0_t1_body L rowsM (Memref.isWhole_whole _) offM (Memref.isWhole_whole _) outM (Memref.isWhole_whole _)
            ringM (Memref.isWhole_whole _) accM (Memref.isWhole_whole _) offV (Memref.isWhole_whole _) cc0_scratch3 cc0_scoped0 cc0_scoped1
            v1 laneVec k0_pay108 k0_pay109 k ⟨⟩)
          (fun _ => iprop(wmInv wmE ιwm ∗ MayWaits (thr d L) (default : HIx 1) Ob ∗ Inv (F := F) d L R O q Ob Wt (k.val + 1))) := by
  have hk : k.val < 48 := t1_lt k
  obtain ⟨j, hj⟩ : ∃ j : Fin 4, j.val = k.val % 4 := ⟨⟨k.val % 4, Nat.mod_lt _ (by decide)⟩, rfl⟩
  unfold k0_t1_body Inv
  simp only [k0_part5_eq_skeleton, k0_part6_eq_skeleton, k0_part7_eq_skeleton, k0_part8_eq_skeleton, k0_part9_eq_skeleton, k0_part10_eq_skeleton, k0_part11_eq_skeleton]
  unfold k0_part5_skel k0_part6_skel k0_part7_skel k0_part8_skel k0_part9_skel k0_part10_skel k0_part11_skel
  simp only [Prog.lift, Prog.bind_op, Prog.bind_ret, Prog.pure_eq_ret, Prog.bind_assoc]
  iintro ⟨#Hwm, #Hmw, Hr, Hoff, Hacc, Hsl, ⟨%W₀, %hW₀, HO⟩⟩
  ihave Hsl := (slots_take (F := F) d L R O q hk j hj) $$ Hsl
  icases Hsl with ⟨Hbusy, Hsl⟩
  -- the bag's first position, to name the copy that is waited for
  have hb := bag0_le L
  iapply (wp_off (F := F) d L O (show k0_off17 L k = ![bag0 L + k.val] from k0_off17_eq L k)) $$ Hoff
  iintro %v %hv Hoff
  have h5 : (extractAt ![0] (k0_pay41 (F := F) v) inpos_S1_p0).toNat ≤ 122880 := (congrArg BitVec.toNat (first O hv)).trans_le (hO _ (by omega))
  rw [wp_assume_of _ _ _ _ (chk5_of h5)]
  iapply (wp_wait (F := F) d L R (q j) j ((off18_eq k).trans (by rw [hj])) ((off20_eq k).trans (by rw [hj]))) $$ [Hbusy HO]
  · isplitr; · iexact Hmw
    isplitl [Hbusy]; · iexact Hbusy
    iexact HO
  iintro ⟨Hfull, HO⟩
  ihave H := (full_filled (F := F) d L R (q j) j hj) $$ [Hr Hfull]
  · isplitl [Hr]; · iexact Hr
    iexact Hfull
  icases H with ⟨⟨%f, %g, %W, %hf, Hr⟩, Hidle⟩
  -- its first and last position
  iapply (wp_off (F := F) d L O (show k0_off21 L k = ![bag0 L + k.val] from k0_off21_eq L k)) $$ Hoff
  iintro %u %hu Hoff
  have es : extractAt ![0] (k0_pay42 (F := F) u) inpos_S1_p0 = ow O (bag0 L + k.val) := first O hu
  have es' : extractAt ![0] (k0_pay44 (F := F) u) inpos_S1_p0 = ow O (bag0 L + k.val) := first O hu
  have ee : extractAt ![0] (k0_pay43 (F := F) u) inpos_S1_p0 = ow O (bag0 L + k.val + 1) := second O hu
  have hs : (extractAt ![0] (k0_pay42 (F := F) u) inpos_S1_p0).toNat ≤ 122880 := by rw [es]; exact hO _ (by omega)
  have he : (extractAt ![0] (k0_pay43 (F := F) u) inpos_S1_p0).toNat ≤ 122880 := by rw [ee]; exact hO _ (by omega)
  have hf' : Filled R k.val (extractAt ![0] (k0_pay42 (F := F) u) inpos_S1_p0).toNat g W := by rw [es]; exact hf
  rw [wp_assume_of _ _ _ _ (show k0_chk6 k (extractAt ![0] (k0_pay42 (F := F) u) inpos_S1_p0) (extractAt ![0] (k0_pay43 (F := F) u) inpos_S1_p0)
    (extractAt ![0] (k0_pay44 (F := F) u) inpos_S1_p0) from chk6_of k hs he)]
  iapply (t2_loop (F := F) d L (R := R) k hs he hf') $$ [Hr]
  · isplitr; · iexact Hwm
    iexact Hr
  iintro Hr
  iapply (wp_rest (F := F) d L k)
  rw [es, ee]
  -- the sixteen scatters
  rw [wp_assume_of _ _ _ _ (show k0_chk11 (k0_pay59 k0_pay108 (rowWord k)) (k0_pay60 laneVec) from put_chk k 0)]
  iapply (wp_put (F := F) d L R O k 0 (by decide) (put_val R (st O L k.val) (st O L (k.val + 1)) 0)) $$ Hacc
  iintro Hacc
  rw [wp_assume_of _ _ _ _ (show k0_chk12 (k0_pay62 k0_pay108 (rowWord k)) (k0_pay63 laneVec) from put_chk k 1)]
  iapply (wp_put (F := F) d L R O k 1 (by decide) (put_val R (st O L k.val) (st O L (k.val + 1)) 1)) $$ Hacc
  iintro Hacc
  rw [wp_assume_of _ _ _ _ (show k0_chk13 (k0_pay65 k0_pay108 (rowWord k)) (k0_pay66 laneVec) from put_chk k 2)]
  iapply (wp_put (F := F) d L R O k 2 (by decide) (put_val R (st O L k.val) (st O L (k.val + 1)) 2)) $$ Hacc
  iintro Hacc
  rw [wp_assume_of _ _ _ _ (show k0_chk14 (k0_pay68 k0_pay108 (rowWord k)) (k0_pay69 laneVec) from put_chk k 3)]
  iapply (wp_put (F := F) d L R O k 3 (by decide) (put_val R (st O L k.val) (st O L (k.val + 1)) 3)) $$ Hacc
  iintro Hacc
  rw [wp_assume_of _ _ _ _ (show k0_chk15 (k0_pay71 k0_pay108 (rowWord k)) (k0_pay72 laneVec) from put_chk k 4)]
  iapply (wp_put (F := F) d L R O k 4 (by decide) (put_val R (st O L k.val) (st O L (k.val + 1)) 4)) $$ Hacc
  iintro Hacc
  rw [wp_assume_of _ _ _ _ (show k0_chk16 (k0_pay74 k0_pay108 (rowWord k)) (k0_pay75 laneVec) from put_chk k 5)]
  iapply (wp_put (F := F) d L R O k 5 (by decide) (put_val R (st O L k.val) (st O L (k.val + 1)) 5)) $$ Hacc
  iintro Hacc
  rw [wp_assume_of _ _ _ _ (show k0_chk17 (k0_pay77 k0_pay108 (rowWord k)) (k0_pay78 laneVec) from put_chk k 6)]
  iapply (wp_put (F := F) d L R O k 6 (by decide) (put_val R (st O L k.val) (st O L (k.val + 1)) 6)) $$ Hacc
  iintro Hacc
  rw [wp_assume_of _ _ _ _ (show k0_chk18 (k0_pay80 k0_pay108 (rowWord k)) (k0_pay82 laneVec k0_pay81) from put_chk k 7)]
  iapply (wp_put (F := F) d L R O k 7 (by decide) (put_val R (st O L k.val) (st O L (k.val + 1)) 7)) $$ Hacc
  iintro Hacc
  rw [wp_assume_of _ _ _ _ (show k0_chk19 (k0_pay84 k0_pay108 (rowWord k)) (k0_pay85 laneVec) from put_chk k 8)]
  iapply (wp_put (F := F) d L R O k 8 (by decide) (put_val R (st O L k.val) (st O L (k.val + 1)) 8)) $$ Hacc
  iintro Hacc
  rw [wp_assume_of _ _ _ _ (show k0_chk20 (k0_pay87 k0_pay108 (rowWord k)) (k0_pay88 laneVec) from put_chk k 9)]
  iapply (wp_put (F := F) d L R O k 9 (by decide) (put_val R (st O L k.val) (st O L (k.val + 1)) 9)) $$ Hacc
  iintro Hacc
  rw [wp_assume_of _ _ _ _ (show k0_chk21 (k0_pay90 k0_pay108 (rowWord k)) (k0_pay91 laneVec) from put_chk k 10)]
  iapply (wp_put (F := F) d L R O k 10 (by decide) (put_val R (st O L k.val) (st O L (k.val + 1)) 10)) $$ Hacc
  iintro Hacc
  rw [wp_assume_of _ _ _ _ (show k0_chk22 (k0_pay93 k0_pay108 (rowWord k)) (k0_pay95 (k0_pay94 laneVec)) from put_chk k 11)]
  iapply (wp_put (F := F) d L R O k 11 (by decide) (put_val R (st O L k.val) (st O L (k.val + 1)) 11)) $$ Hacc
  iintro Hacc
  rw [wp_assume_of _ _ _ _ (show k0_chk23 (k0_pay97 k0_pay108 (rowWord k)) (k0_pay98 laneVec) from put_chk k 12)]
  iapply (wp_put (F := F) d L R O k 12 (by decide) (put_val R (st O L k.val) (st O L (k.val + 1)) 12)) $$ Hacc
  iintro Hacc
  rw [wp_assume_of _ _ _ _ (show k0_chk24 (k0_pay100 k0_pay108 (rowWord k)) (k0_pay101 laneVec) from put_chk k 13)]
  iapply (wp_put (F := F) d L R O k 13 (by decide) (put_val R (st O L k.val) (st O L (k.val + 1)) 13)) $$ Hacc
  iintro Hacc
  rw [wp_assume_of _ _ _ _ (show k0_chk25 (k0_pay103 k0_pay108 (rowWord k)) (k0_pay104 laneVec) from put_chk k 14)]
  iapply (wp_put (F := F) d L R O k 14 (by decide) (put_val R (st O L k.val) (st O L (k.val + 1)) 14)) $$ Hacc
  iintro Hacc
  rw [wp_assume_of _ _ _ _ (show k0_chk26 (k0_pay106 k0_pay108 (rowWord k)) (k0_pay107 laneVec) from put_chk k 15)]
  iapply (wp_put (F := F) d L R O k 15 (by decide) (put_val R (st O L k.val) (st O L (k.val + 1)) 15)) $$ Hacc
  iintro Hacc
  ihave Hacc := (Acc_next (F := F) d L R O) $$ Hacc
  have hW : ∀ p ∈ insert (semJ j, (default : HIx 1)) W₀, p ∈ Wt ∨ p.2 = none := by
    intro p hp
    rcases Finset.mem_insert.1 hp with rfl | hp
    · exact Or.inr rfl
    · exact hW₀ p hp
  by_cases hc : k.val < 44
  · -- the copy of the bag four later
    rw [dif_pos ((cond1_iff k).2 hc)]
    simp only [Prog.lift, Prog.bind_op, Prog.bind_ret, Prog.pure_eq_ret, Prog.bind_assoc]
    iapply (wp_off (F := F) d L O (show k0_off30 L k = ![bag0 L + k.val + 4] from k0_off30_eq L k)) $$ Hoff
    iintro %w %hw Hoff
    have es4 : (extractAt ![0] (k0_pay40 (F := F) w) inpos_S1_p0).toNat = st O L (k.val + 4) := congrArg BitVec.toNat (first O hw)
    have hs4 : (extractAt ![0] (k0_pay40 (F := F) w) inpos_S1_p0).toNat ≤ 122880 := by rw [es4]; exact st_le hO L (by omega)
    rw [wp_assume_of _ _ _ _ (chk27_of k hs4)]
    iapply (wp_issue (F := F) d L R (q j) j hs4 ((off31_eq k).trans (by rw [hj])) (off32_eq hs4) ((off33_eq k).trans (by rw [hj]))) $$ [Hr Hidle]
    · isplitr; · iexact Hwm
      isplitl [Hr]; · iexists f, g, W; iexact Hr
      iexact Hidle
    iintro ⟨Hr, Hbusy⟩
    rw [es4]
    ihave Hbusy := (Entails.of_eq (show Busy (F := F) d L R (q j) j (st O L (k.val + 4)) = Slot (F := F) d L R O q j (k.val + 4) from (if_pos (by omega)).symm)) $$ Hbusy
    ispecialize Hsl $$ Hbusy
    rw [wp_ret]; imodintro
    isplitr; · iexact Hwm
    isplitr; · iexact Hmw
    isplitl [Hr]; · iexact Hr
    isplitl [Hoff]; · iexact Hoff
    isplitl [Hacc]; · iexact Hacc
    isplitl [Hsl]; · iexact Hsl
    iexists _
    isplitr; · ipureintro; exact hW
    iexact HO
  · rw [dif_neg (fun h => hc ((cond1_iff k).1 h))]
    simp only [Prog.lift, Prog.bind_op, Prog.bind_ret, Prog.pure_eq_ret, Prog.bind_assoc]
    ihave Hidle := (Entails.of_eq (show Idle (F := F) d L R (q j) j = Slot (F := F) d L R O q j (k.val + 4) from (if_neg (by omega)).symm)) $$ Hidle
    ispecialize Hsl $$ Hidle
    rw [wp_ret]; imodintro
    isplitr; · iexact Hwm
    isplitr; · iexact Hmw
    isplitl [Hr]; · iexists f, g, W; iexact Hr
    isplitl [Hoff]; · iexact Hoff
    isplitl [Hacc]; · iexact Hacc
    isplitl [Hsl]; · iexact Hsl
    iexists _
    isplitr; · ipureintro; exact hW
    iexact HO

end

end Cert.Proof.Trip

end
-- ==== Proof.Tile.lean ====
/-
  One task: the offsets copied in, the first four copies started, the forty-eight bags, the results copied out.
-/
module

public import proofs.«01_k».proof.Proof.Trip

@[expose] public section

set_option maxRecDepth 16384

noncomputable section

namespace Cert.Proof.Tile

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Cert.Proof.Ring (hO hT)
open Cert.Proof.Words Cert.Proof.Spec Cert.Proof.Setup Cert.Proof.Inner Cert.Proof.Slots Cert.Proof.Trip

variable {F : FTy → Type} [FloatOps F]

local notation "𝕄" => MT nD τ sig (HIx 1) (Elt F) ℕ (UU F) ℕ

variable (d : Dev nD) (L : grid0.Coords) (R : Packed) (O : S2048.Idx → BitVec 32)

/-! ## The task's own semaphores and buffers -/

abbrev cell (a : SemLoc sig) : GSem nD τ sig := (thr d L, a)

omit [FloatOps F] in
theorem cell_ne {a b : SemLoc sig} (h : a ≠ b) : cell d L a ≠ cell d L b := fun e => h (congrArg Prod.snd e)

abbrev semA : SemLoc sig := .dma cc0_scoped0.sem
abbrev semB : SemLoc sig := .dma cc0_scoped1.sem

theorem mem_own {a : SemLoc sig} (h : a.isScoped .scVector = true) : cell d L a ∈ ownCells (thr d L) :=
  (mem_ownCells (g := cell d L a)).mpr ⟨rfl, h⟩

omit [FloatOps F] in
theorem ownSems0_V :
    (ownSems0 (thr d L) : sProp 𝕄)
      = iprop(semVal (cell d L semA) 0 ∗ semVal (cell d L semB) 0 ∗ semVal (cell d L (semJ 0)) 0 ∗ semVal (cell d L (semJ 1)) 0
          ∗ semVal (cell d L (semJ 2)) 0 ∗ semVal (cell d L (semJ 3)) 0
          ∗ bigSep ((((((((ownCells (thr d L)).erase (cell d L semA)).erase (cell d L semB)).erase (cell d L (semJ 0))).erase (cell d L (semJ 1))).erase
              (cell d L (semJ 2))).erase (cell d L (semJ 3)))) fun g => semVal g 0) := by
  unfold SparseCore.Cfg.ownSems0
  rw [SparseCore.bigSep_erase' (mem_own d L (a := semA) (by decide)),
    SparseCore.bigSep_erase' (Finset.mem_erase.mpr ⟨cell_ne d L (by decide), mem_own d L (a := semB) (by decide)⟩),
    SparseCore.bigSep_erase' (Finset.mem_erase.mpr ⟨cell_ne d L (by decide), Finset.mem_erase.mpr ⟨cell_ne d L (by decide), mem_own d L (a := semJ 0) (by decide)⟩⟩),
    SparseCore.bigSep_erase' (Finset.mem_erase.mpr ⟨cell_ne d L (by decide), Finset.mem_erase.mpr ⟨cell_ne d L (by decide), Finset.mem_erase.mpr ⟨cell_ne d L (by decide),
      mem_own d L (a := semJ 1) (by decide)⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), mem_own d L (a := semJ 2) (by decide)⟩⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), Finset.mem_erase.mpr ⟨cell_ne d L (by decide), mem_own d L (a := semJ 3) (by decide)⟩⟩⟩⟩⟩)]

abbrev ref (b : Ref sig .scVector) : DevRef τ sig := (Proc.scVector (cV L) (jV L)).devRef b

omit [FloatOps F] in
theorem ref_ne {a b : Ref sig .scVector} (h : a ≠ b) : ref L a ≠ ref L b := fun e => h (Proc.devRef_injective _ e)

omit [FloatOps F] in
/-- The ring, the results and the offsets are among the subcore's own buffers. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (cV L) (jV L))).erase (ref L cc0_scratch0)).erase (ref L cc0_scratch1)).erase (ref L cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ref L cc0_scratch0) rfl)).trans ?_
  rw [SparseCore.bigSep_erase' (Finset.mem_erase.mpr ⟨ref_ne L (by decide),
      SparseCore.Cfg.mem_ownRefs_of_owner (p := Proc.scVector (cV L) (jV L)) (b := ref L cc0_scratch1) rfl⟩),
    SparseCore.bigSep_erase' (Finset.mem_erase.mpr ⟨ref_ne L (by decide), Finset.mem_erase.mpr ⟨ref_ne L (by decide),
      SparseCore.Cfg.mem_ownRefs_of_owner (p := Proc.scVector (cV L) (jV L)) (b := ref L cc0_scratch2) rfl⟩⟩)]

/-! ## The ring as four windows -/

abbrev ringLoc : Loc nD τ sig := (thr d L).loc cc0_scratch0

/-- A window in write mode, whatever it holds. -/
def Win (S : Finset (Idx (ringLoc d L))) : sProp 𝕄 := iprop(∃ f g W, willBeTo wmE (ringLoc d L) S hT f g W)

omit [FloatOps F] in
theorem win_split {S I : Finset (Idx (ringLoc d L))} (hS : S ⊆ I) : (Win (F := F) d L I : sProp 𝕄) ⊢ iprop(Win (F := F) d L S ∗ Win (F := F) d L (I \ S)) := by
  unfold Win
  iintro ⟨%f, %g, %W, H⟩
  ihave H := (BI.Region.held_split_subset (ι := (wmEmb (HIx 1) (wmE (F := F))).toEmb) hS).1 $$ H
  icases H with ⟨H1, H2⟩
  isplitl [H1]
  · iexists f, g, W; iexact H1
  · iexists f, g, W; iexact H2

omit [FloatOps F] in
/-- The ring, put in write mode: its owner's half and the four windows. -/
theorem ring_open {ιwm : ℕ} (f : Buf (Elt F) (ringLoc d L)) :
    (iprop(wmInv wmE ιwm ∗ ringLoc d L ↦{fullShare} f) : sProp 𝕄)
      ⊢ iprop(|={Set.univ}=> ((∃ f g W, Rg (F := F) d L f g W) ∗ Win (F := F) d L (winS 0) ∗ Win (F := F) d L (winS 1) ∗ Win (F := F) d L (winS 2) ∗ Win (F := F) d L (winS 3))) := by
  iintro H
  imod (Ring.start (emb := wmE) (ιwm := ιwm) (ℓ := ringLoc d L) (I := Finset.univ) (fun _ => none)) $$ H with ⟨Ho, Ht⟩
  imodintro
  isplitl [Ho]; · iexists f, _, _; iexact Ho
  ihave Ht := (show (willBeTo wmE (ringLoc d L) Finset.univ hT f (fun _ => none) ∅ : sProp 𝕄) ⊢ Win (F := F) d L Finset.univ from by
    unfold Win; iintro H; iexists f, _, _; iexact H) $$ Ht
  have h1 : winS 1 ⊆ Finset.univ \ winS 0 := Finset.subset_sdiff.2 ⟨Finset.subset_univ _, winS_disjoint (by decide)⟩
  have h2 : winS 2 ⊆ (Finset.univ \ winS 0) \ winS 1 := Finset.subset_sdiff.2 ⟨Finset.subset_sdiff.2 ⟨Finset.subset_univ _, winS_disjoint (by decide)⟩, winS_disjoint (by decide)⟩
  have h3 : winS 3 ⊆ ((Finset.univ \ winS 0) \ winS 1) \ winS 2 := Finset.subset_sdiff.2 ⟨Finset.subset_sdiff.2 ⟨Finset.subset_sdiff.2 ⟨Finset.subset_univ _,
    winS_disjoint (by decide)⟩, winS_disjoint (by decide)⟩, winS_disjoint (by decide)⟩
  ihave H := (win_split (F := F) d L (S := winS 0) (Finset.subset_univ _)) $$ Ht
  icases H with ⟨H0, Ht⟩
  ihave H := (win_split (F := F) d L h1) $$ Ht
  icases H with ⟨H1, Ht⟩
  ihave H := (win_split (F := F) d L h2) $$ Ht
  icases H with ⟨H2, Ht⟩
  ihave H := (win_split (F := F) d L h3) $$ Ht
  icases H with ⟨H3, -⟩
  isplitl [H0]; · iexact H0
  isplitl [H1]; · iexact H1
  isplitl [H2]; · iexact H2
  iexact H3

omit [FloatOps F] in
/-- The four windows and the owner's half, back as the ring. -/
theorem ring_close {ιwm : ℕ} :
    (iprop(wmInv wmE ιwm ∗ (∃ f g W, Rg (F := F) d L f g W) ∗ Win (F := F) d L (winS 0) ∗ Win (F := F) d L (winS 1) ∗ Win (F := F) d L (winS 2) ∗ Win (F := F) d L (winS 3)) : sProp 𝕄)
      ⊢ iprop(|={Set.univ}=> ∃ f, ringLoc d L ↦{fullShare} f) := by
  unfold Win
  iintro ⟨#Hwm, ⟨%f, %g, %W, Ho⟩, ⟨%f0, %g0, %W0, H0⟩, ⟨%f1, %g1, %W1, H1⟩, ⟨%f2, %g2, %W2, H2⟩, ⟨%f3, %g3, %W3, H3⟩⟩
  ihave H := (Ring.merge (emb := wmE) (ℓ := ringLoc d L) (Finset.subset_univ (winS 0)) (Finset.subset_univ (winS 1)) (winS_disjoint (by decide))) $$ [Ho H0 H1]
  · isplitl [Ho]; · iexact Ho
    isplitl [H0]; · iexact H0
    iexact H1
  icases H with ⟨%A1, %B1, Ho, Ht⟩
  ihave H := (Ring.merge (emb := wmE) (ℓ := ringLoc d L) (Finset.subset_univ (winS 0 ∪ winS 1)) (Finset.subset_univ (winS 2))
    (Finset.disjoint_union_left.2 ⟨winS_disjoint (by decide), winS_disjoint (by decide)⟩)) $$ [Ho Ht H2]
  · isplitl [Ho]; · iexact Ho
    isplitl [Ht]; · iexact Ht
    iexact H2
  icases H with ⟨%A2, %B2, Ho, Ht⟩
  ihave H := (Ring.merge (emb := wmE) (ℓ := ringLoc d L) (Finset.subset_univ (winS 0 ∪ winS 1 ∪ winS 2)) (Finset.subset_univ (winS 3))
    (Finset.disjoint_union_left.2 ⟨Finset.disjoint_union_left.2 ⟨winS_disjoint (by decide), winS_disjoint (by decide)⟩, winS_disjoint (by decide)⟩)) $$ [Ho Ht H3]
  · isplitl [Ho]; · iexact Ho
    isplitl [Ht]; · iexact Ht
    iexact H3
  icases H with ⟨%A3, %B3, Ho, Ht⟩
  rw [winS_union]
  iapply (Ring.finish (emb := wmE) (ιwm := ιwm) (ℓ := ringLoc d L)) $$ [Ho Ht]
  isplitr; · iexact Hwm
  isplitl [Ho]; · iexact Ho
  iexact Ht

/-! ## The block of the result -/

abbrev outSl : Memref sig .scVector .hbm S48x256 .f32 :=
  outM.slice (Rect.unit (s := S1536x256) (k0_off34 L) S48x256.size (k0_off34_inb L)) (fun _ => rfl)

/-- The rows of the result the task writes. -/
def blk : Finset S1536x256.Idx := Finset.univ.filter fun i => bag0 L ≤ (i 0).val ∧ (i 0).val < bag0 L + 48

omit [FloatOps F] in
theorem out_set : (outSl L).view.set = blk L := by
  ext i
  have h : (outSl L).view.set = (Rect.unit (s := S1536x256) (k0_off34 L) S48x256.size (k0_off34_inb L)).set := View.set_slice_whole main_v1_scv _
  rw [h, Rect.mem_set_unit, blk, Finset.mem_filter, k0_off34_eq]
  constructor
  · intro h; exact ⟨Finset.mem_univ _, h 0⟩
  · rintro ⟨-, h⟩ a
    fin_cases a
    · exact h
    · exact ⟨Nat.zero_le _, by have : (i 1).val < 256 := (i 1).isLt; show (i 1).val < 0 + 256; omega⟩

/-- The whole result: in row `n`, the sums of bag `n`. -/
def total : S1536x256.Idx → F .f32 := fun i => outAt R (ow O (i 0).val).toNat (ow O ((i 0).val + 1)).toNat (i 1).val

/-- The task's results, written over its rows, are those rows of the whole result. -/
theorem out_val {acc : S48x256.Idx → F .f32} (h : Done (res (F := F) R O L) 48 0 acc) (f : S1536x256.Idx → F .f32) :
    ∀ i ∈ (outSl L).view.set, View.write (Elt F) (outSl L).view f acc Finset.univ i = total (F := F) R O i := by
  intro i hi
  obtain ⟨x, -, rfl⟩ := Finset.mem_map.1 hi
  rw [View.write_emb_of_mem _ _ (Finset.mem_univ x)]
  have hx : (x 0).val < 48 := (x 0).isLt
  have hb : k0_off34 L 0 = bag0 L := by rw [k0_off34_eq]; rfl
  have hb1 : k0_off34 L 1 = 0 := by rw [k0_off34_eq]; rfl
  have e0 : (((outSl L).view.emb x) 0).val = bag0 L + (x 0).val := by
    rw [← hb]; show k0_off34 L 0 + 1 * (x 0).val = _; omega
  have e1 : (((outSl L).view.emb x) 1).val = (x 1).val := by
    show k0_off34 L 1 + 1 * (x 1).val = _; omega
  show acc x = _
  rw [h x (Or.inl hx)]
  unfold total res st
  rw [e0, e1]
  rfl

end Cert.Proof.Tile

end
-- ==== Proof.Task.lean ====
/-
  One task, run: from its shares of the rows and of the offsets and its block of the result, to the block holding the sums.
-/
module

public import proofs.«01_k».proof.Proof.Tile

@[expose] public section

set_option maxRecDepth 16384

noncomputable section

namespace Cert.Proof.Task

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers
open Idealize.ShloMosaic.ShareLeaves
open Cert.Proof.Ring (hO hT)
open Cert.Proof.Words Cert.Proof.Spec Cert.Proof.Setup Cert.Proof.Inner Cert.Proof.Slots Cert.Proof.Trip Cert.Proof.Tile

variable {F : FTy → Type} [FloatOps F]

local notation "𝕄" => MT nD τ sig (HIx 1) (Elt F) ℕ (UU F) ℕ

variable (d : Dev nD) (L : grid0.Coords) (R : Packed) (O : S2048.Idx → BitVec 32)

/-- The four windows' shares of the rows. -/
def qs (qr : PosShare TreeShare) (j : Fin 4) : PosShare TreeShare := leaf 2 qr j

omit [FloatOps F] in
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

omit [FloatOps F] in
theorem rows_split (qr : PosShare TreeShare) :
    (rowsAt d L ↦{qr} R : sProp 𝕄) = iprop((rowsAt d L ↦{qs qr 0} R) ∗ (rowsAt d L ↦{qs qr 1} R) ∗ (rowsAt d L ↦{qs qr 2} R) ∗ (rowsAt d L ↦{qs qr 3} R)) :=
  by
  have h := pointsTo_leaves (U := UU F) (Ix := HIx 1) (Val := Elt F) (Name := ℕ) (Lvl := ℕ) (ℓ := rowsAt d L) Finset.univ R 2 qr
  have h' := bigSep_four (F := F) fun j => iprop(rowsAt d L ↦{qs qr j} R)
  exact h.trans h'

omit [FloatOps F] in
theorem idle_of (q : PosShare TreeShare) (j : Fin 4) :
    (iprop(semVal (cell d L (semJ j)) 0 ∗ (rowsAt d L ↦{q} R) ∗ Win (F := F) d L (winS j)) : sProp 𝕄) = Idle (F := F) d L R q j := rfl

omit [FloatOps F] in
/-- The first four copies under way: bag `j`'s rows to window `j`. -/
theorem slots_zero (q : Fin 4 → PosShare TreeShare) :
    (iprop(Busy (F := F) d L R (q 0) 0 (st O L 0) ∗ Busy (F := F) d L R (q 1) 1 (st O L 1) ∗ Busy (F := F) d L R (q 2) 2 (st O L 2) ∗ Busy (F := F) d L R (q 3) 3 (st O L 3)) : sProp 𝕄)
      = Slots (F := F) d L R O q 0 := by
  unfold Slots
  rw [bigSep_four]
  rfl

omit [FloatOps F] in
/-- After the last bag no copy is under way. -/
theorem slots_end (q : Fin 4 → PosShare TreeShare) :
    (Slots (F := F) d L R O q 48 : sProp 𝕄)
      = iprop(Idle (F := F) d L R (q 0) 0 ∗ Idle (F := F) d L R (q 1) 1 ∗ Idle (F := F) d L R (q 2) 2 ∗ Idle (F := F) d L R (q 3) 3) := by
  unfold Slots
  rw [bigSep_four]
  rfl

/-- A start read from sixteen offsets. -/
theorem start_of {n : Nat} {v : S16.Idx → BitVec 32} (hv : ∀ x, v x = ow O (bag0 L + n + (x 0).val)) :
    (extractAt ![0] (extractStridedSlice S1 ![0] v slices_S16_o0_S1) inpos_S1_p0).toNat = st O L n :=
  congrArg BitVec.toNat (first O hv)

set_option maxHeartbeats 4000000 in
theorem tile_body (hF : (K (F := F)).Facts) (hR : InRange O) (qr qo : PosShare TreeShare) (f₀ : S1536x256.Idx → F .f32)
    (Ob : CellTallies nD τ sig (HIx 1)) (Wt : Waits sig (HIx 1)) (hOb : ∀ g, Ob g none = 0) :
    iprop(levAts (K (F := F)).L (K (F := F)).lev ∗ (∃ ιwm : ℕ, wmInv (wmE (F := F)) ιwm)
        ∗ ((rowsLoc d ↦{qr} R) ∗ (offsLoc d ↦{qo} O) ∗ (outLoc d ↦[blk L]{fullShare} f₀))
        ∗ scopedBufs (thr d L) ∗ scopedSems0 (thr d L) ∗ owes (thr d L) Ob Wt)
      ⊢ wp frame (wpE (defs₀ (F := F)) 𝒱₀ (thr d L) none) Set.univ
          (cc0_pool_bags L rowsM (Memref.isWhole_whole _) offM (Memref.isWhole_whole _) outM (Memref.isWhole_whole _)
            ringM (Memref.isWhole_whole _) accM (Memref.isWhole_whole _) offV (Memref.isWhole_whole _) cc0_scratch3 cc0_scoped0 cc0_scoped1)
          fun _ => iprop(((rowsLoc d ↦{qr} R) ∗ (offsLoc d ↦{qo} O) ∗ (outLoc d ↦[blk L]{fullShare} total (F := F) R O))
            ∗ scopedBufs (thr d L) ∗ scopedSems0 (thr d L) ∗ ∃ W', ⌜∀ p ∈ W', p ∈ Wt ∨ p.2 = none⌝ ∗ owes (thr d L) Ob W') := by
  simp only [cc0_pool_bags_eq_skeleton]; unfold cc0_pool_bags_skel
  simp only [k0_part12_eq_skeleton, k0_part13_eq_skeleton, k0_part14_eq_skeleton, k0_part15_eq_skeleton, k0_part16_eq_skeleton]
  unfold k0_part12_skel k0_part13_skel k0_part14_skel k0_part15_skel k0_part16_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_V, ownBufs_V]
  iintro ⟨#Hlv, ⟨%ιwm, #Hwm⟩, ⟨Hrows, Hoffs, Hout⟩, ⟨⟨%fr, Hring⟩, ⟨%fa, Hacc⟩, ⟨%fo, Hoff⟩, Hbufs⟩, ⟨HsA, HsB, Hs0, Hs1, Hs2, Hs3, Hsems⟩, HO⟩
  ihave Hmw := (show levAts (K (F := F)).L (K (F := F)).lev ⊢ Transfers.MayWaits (thr d L) (default : HIx 1) Ob from
    (K (F := F)).mayWaits_none (thr := thr d L) hOb) $$ Hlv
  icases Hmw with #Hmw
  -- the ring in write mode, four windows idle
  imod (ring_open (F := F) d L (ιwm := ιwm) fr) $$ [Hring] with ⟨Hrg, Hw0, Hw1, Hw2, Hw3⟩
  · isplitr; · iexact Hwm
    iexact Hring
  ihave Hrows := (Entails.of_eq (rows_split (F := F) d L R qr)) $$ Hrows
  icases Hrows with ⟨Hr0, Hr1, Hr2, Hr3⟩
  -- the offsets, copied in
  have ho : (offM : Memref sig .scVector .hbm S2048 .i32).view.set = Finset.univ := View.set_whole _
  ihave Hoffs := (Entails.of_eq (show (offsLoc d ↦{qo} O : sProp 𝕄) = (offM.view.loc (thr d L) ↦[offM.view.set]{qo} O) by rw [ho])) $$ Hoffs
  iapply (Transfers.wp_dmaLocal countersEmb 𝒱₀ (thr d L) none (src := offM) (dst := offV) (sm := semA) (fs := O) (fd := fo) (Sd := Finset.univ)
    (default : HIx 1) (offV.view.dmaCredit) rfl (View.dmaCredit_pos _ (by decide)) (Finset.subset_univ _)) $$ [Hoffs Hoff HsA]
  · isplitl [Hoffs]; · iexact Hoffs
    isplitl [Hoff]; · iexact Hoff
    iexact HsA
  iintro Hfl
  iapply (Transfers.wp_waitLocalO countersEmb 𝒱₀ (thr d L) none (default : HIx 1) (rfl : offV.view.dmaCredit = _)) $$ [Hfl HO]
  · isplitl [Hfl]; · iexact Hfl
    isplitl [HO]; · iexact HO
    iapply (Transfers.MayWaits.elim semA) $$ Hmw
  iintro ⟨⟨Hoff, Hoffs⟩, HsA, HO⟩
  have eo : offV.view.write (Elt F) fo ((ReadAs.same (Val := Elt F)).apply (offM.view.read (Elt F) O)) Finset.univ = O := by
    rw [View.write_whole_univ]
    rfl
  rw [eo]
  have hb := bag0_le L
  -- bag 0's rows, to window 0
  iapply (wp_off (F := F) d L O (show k0_off1 L = ![bag0 L + 0] from k0_off1_eq L)) $$ Hoff
  iintro %v0 %hv0 Hoff
  have es0 : (extractAt ![0] (k0_pay110 (F := F) v0) inpos_S1_p0).toNat = st O L 0 := start_of L O hv0
  have hs0 : (extractAt ![0] (k0_pay110 (F := F) v0) inpos_S1_p0).toNat ≤ 122880 := by rw [es0]; exact st_le hR L (by omega)
  rw [wp_assume_of _ _ _ _ (chk1_of hs0)]
  iapply (wp_issue (F := F) d L R (qs qr 0) 0 hs0 off2_eq (off3_eq hs0) off4_eq) $$ [Hrg Hs0 Hr0 Hw0]
  · isplitr; · iexact Hwm
    isplitl [Hrg]; · iexact Hrg
    iapply (Entails.of_eq (idle_of (F := F) d L R (qs qr 0) 0))
    isplitl [Hs0]; · iexact Hs0
    isplitl [Hr0]; · iexact Hr0
    iexact Hw0
  iintro ⟨Hrg, Hb0⟩
  rw [es0]
  -- bag 1's rows, to window 1
  iapply (wp_off (F := F) d L O (show k0_off5 L = ![bag0 L + 1] from k0_off5_eq L)) $$ Hoff
  iintro %v1 %hv1 Hoff
  have es1 : (extractAt ![0] (k0_pay111 (F := F) v1) inpos_S1_p0).toNat = st O L 1 := start_of L O hv1
  have hs1 : (extractAt ![0] (k0_pay111 (F := F) v1) inpos_S1_p0).toNat ≤ 122880 := by rw [es1]; exact st_le hR L (by omega)
  rw [wp_assume_of _ _ _ _ (chk2_of hs1)]
  iapply (wp_issue (F := F) d L R (qs qr 1) 1 hs1 off6_eq (off7_eq hs1) off8_eq) $$ [Hrg Hs1 Hr1 Hw1]
  · isplitr; · iexact Hwm
    isplitl [Hrg]; · iexact Hrg
    iapply (Entails.of_eq (idle_of (F := F) d L R (qs qr 1) 1))
    isplitl [Hs1]; · iexact Hs1
    isplitl [Hr1]; · iexact Hr1
    iexact Hw1
  iintro ⟨Hrg, Hb1⟩
  rw [es1]
  -- bag 2's rows, to window 2
  iapply (wp_off (F := F) d L O (show k0_off9 L = ![bag0 L + 2] from k0_off9_eq L)) $$ Hoff
  iintro %v2 %hv2 Hoff
  have es2 : (extractAt ![0] (k0_pay112 (F := F) v2) inpos_S1_p0).toNat = st O L 2 := start_of L O hv2
  have hs2 : (extractAt ![0] (k0_pay112 (F := F) v2) inpos_S1_p0).toNat ≤ 122880 := by rw [es2]; exact st_le hR L (by omega)
  rw [wp_assume_of _ _ _ _ (chk3_of hs2)]
  iapply (wp_issue (F := F) d L R (qs qr 2) 2 hs2 off10_eq (off11_eq hs2) off12_eq) $$ [Hrg Hs2 Hr2 Hw2]
  · isplitr; · iexact Hwm
    isplitl [Hrg]; · iexact Hrg
    iapply (Entails.of_eq (idle_of (F := F) d L R (qs qr 2) 2))
    isplitl [Hs2]; · iexact Hs2
    isplitl [Hr2]; · iexact Hr2
    iexact Hw2
  iintro ⟨Hrg, Hb2⟩
  rw [es2]
  -- bag 3's rows, to window 3
  iapply (wp_off (F := F) d L O (show k0_off13 L = ![bag0 L + 3] from k0_off13_eq L)) $$ Hoff
  iintro %v3 %hv3 Hoff
  have es3 : (extractAt ![0] (k0_pay113 (F := F) v3) inpos_S1_p0).toNat = st O L 3 := start_of L O hv3
  have hs3 : (extractAt ![0] (k0_pay113 (F := F) v3) inpos_S1_p0).toNat ≤ 122880 := by rw [es3]; exact st_le hR L (by omega)
  rw [wp_assume_of _ _ _ _ (chk4_of hs3)]
  iapply (wp_issue (F := F) d L R (qs qr 3) 3 hs3 off14_eq (off15_eq hs3) off16_eq) $$ [Hrg Hs3 Hr3 Hw3]
  · isplitr; · iexact Hwm
    isplitl [Hrg]; · iexact Hrg
    iapply (Entails.of_eq (idle_of (F := F) d L R (qs qr 3) 3))
    isplitl [Hs3]; · iexact Hs3
    isplitl [Hr3]; · iexact Hr3
    iexact Hw3
  iintro ⟨Hrg, Hb3⟩
  rw [es3]
  ihave Hsl := (Entails.of_eq (slots_zero (F := F) d L R O (qs qr))) $$ [Hb0 Hb1 Hb2 Hb3]
  · isplitl [Hb0]; · iexact Hb0
    isplitl [Hb1]; · iexact Hb1
    isplitl [Hb2]; · iexact Hb2
    iexact Hb3
  -- the forty-eight bags
  iapply (Scf.wp_for_bind frame (wpE (defs₀ (F := F)) 𝒱₀ (thr d L) none) Set.univ k0_t1_loop.lb k0_t1_loop.ub k0_t1_loop.st
    k0_t1_ok ⟨⟩ _ (fun k _ => iprop(wmInv wmE ιwm ∗ MayWaits (thr d L) (default : HIx 1) Ob ∗ Trip.Inv (F := F) d L R O (qs qr) Ob Wt k)) ?hb) $$ [Hrg Hoff Hacc Hsl HO]
  case hb =>
    intro k acc
    exact t1_trip (F := F) d L R O hR (qs qr) Ob Wt _ k
  · isplitr; · iexact Hwm
    isplitr; · iexact Hmw
    unfold Trip.Inv Trip.Acc
    isplitl [Hrg]; · iexact Hrg
    isplitl [Hoff]; · iexact Hoff
    isplitl [Hacc]
    · iexists fa
      isplitr
      · ipureintro; intro j hj; rcases hj with hj | ⟨_, hj⟩ <;> exact absurd hj (Nat.not_lt_zero _)
      · iexact Hacc
    isplitl [Hsl]; · iexact Hsl
    iexists _
    isplitr; rotate_left
    · iexact HO
    · ipureintro; intro p hp
      rcases Finset.mem_insert.1 hp with rfl | hp
      · exact Or.inr rfl
      · exact Or.inl hp
  iintro %u ⟨-, -, H⟩
  ihave H := (Entails.of_eq (show Trip.Inv (F := F) d L R O (qs qr) Ob Wt (Scf.trips k0_t1_loop.lb k0_t1_loop.ub k0_t1_loop.st) = Trip.Inv (F := F) d L R O (qs qr) Ob Wt 48 from
    congrArg _ t1_trips)) $$ H
  unfold Trip.Inv Trip.Acc
  icases H with ⟨Hrg, Hoff, ⟨%acc, %hacc, Hacc⟩, Hsl, ⟨%W', %hW', HO⟩⟩
  ihave Hsl := (Entails.of_eq (slots_end (F := F) d L R O (qs qr))) $$ Hsl
  icases Hsl with ⟨Hi0, Hi1, Hi2, Hi3⟩
  ihave Hi0 := (Entails.of_eq (idle_of (F := F) d L R (qs qr 0) 0).symm) $$ Hi0
  icases Hi0 with ⟨Hs0, Hr0, Hw0⟩
  ihave Hi1 := (Entails.of_eq (idle_of (F := F) d L R (qs qr 1) 1).symm) $$ Hi1
  icases Hi1 with ⟨Hs1, Hr1, Hw1⟩
  ihave Hi2 := (Entails.of_eq (idle_of (F := F) d L R (qs qr 2) 2).symm) $$ Hi2
  icases Hi2 with ⟨Hs2, Hr2, Hw2⟩
  ihave Hi3 := (Entails.of_eq (idle_of (F := F) d L R (qs qr 3) 3).symm) $$ Hi3
  icases Hi3 with ⟨Hs3, Hr3, Hw3⟩
  imod (ring_close (F := F) d L (ιwm := ιwm)) $$ [Hrg Hw0 Hw1 Hw2 Hw3] with ⟨%fr', Hring⟩
  · isplitr; · iexact Hwm
    isplitl [Hrg]; · iexact Hrg
    isplitl [Hw0]; · iexact Hw0
    isplitl [Hw1]; · iexact Hw1
    isplitl [Hw2]; · iexact Hw2
    iexact Hw3
  -- the results, copied out
  have ha : (accM : Memref sig .scVector .vmem S48x256 .f32).view.set = Finset.univ := View.set_whole _
  ihave Hacc := (Entails.of_eq (show ((thr d L).loc cc0_scratch1 ↦{fullShare} acc : sProp 𝕄) = (accM.view.loc (thr d L) ↦[accM.view.set]{fullShare} acc) by rw [ha])) $$ Hacc
  rw [← out_set]
  iapply (Transfers.wp_dmaLocal countersEmb 𝒱₀ (thr d L) none (src := accM) (dst := outSl L) (sm := semB) (fs := acc) (fd := f₀) (Sd := (outSl L).view.set)
    (default : HIx 1) ((outSl L).view.dmaCredit) rfl (View.dmaCredit_pos _ (by decide)) (Finset.Subset.refl _)) $$ [Hacc Hout HsB]
  · isplitl [Hacc]; · iexact Hacc
    isplitl [Hout]; · iexact Hout
    iexact HsB
  iintro Hfl
  iapply (Transfers.wp_waitLocalO countersEmb 𝒱₀ (thr d L) none (default : HIx 1) (rfl : (outSl L).view.dmaCredit = _)) $$ [Hfl HO]
  · isplitl [Hfl]; · iexact Hfl
    isplitl [HO]; · iexact HO
    iapply (Transfers.MayWaits.elim semB) $$ Hmw
  iintro ⟨⟨Hout, Hacc⟩, HsB, HO⟩
  rw [wp_ret]; imodintro
  isplitl [Hr0 Hr1 Hr2 Hr3 Hoffs Hout]
  · isplitl [Hr0 Hr1 Hr2 Hr3]
    · iapply (Entails.of_eq (rows_split (F := F) d L R qr).symm)
      isplitl [Hr0]; · iexact Hr0
      isplitl [Hr1]; · iexact Hr1
      isplitl [Hr2]; · iexact Hr2
      iexact Hr3
    isplitl [Hoffs]
    · iapply (Entails.of_eq (show (offM.view.loc (thr d L) ↦[offM.view.set]{qo} O : sProp 𝕄) = (offsLoc d ↦{qo} O) by rw [ho])) $$ Hoffs
    iapply (Entails.of_eq (pointsTo_congr (out_val (F := F) L R O hacc f₀))) $$ Hout
  isplitl [Hring Hacc Hoff Hbufs]
  · isplitl [Hring]; · iexists fr'; iexact Hring
    isplitl [Hacc]
    · iexists acc
      iapply (Entails.of_eq (show (accM.view.loc (thr d L) ↦[accM.view.set]{fullShare} acc : sProp 𝕄) = ((thr d L).loc cc0_scratch1 ↦{fullShare} acc) by rw [ha])) $$ Hacc
    isplitl [Hoff]; · iexists O; iexact Hoff
    iexact Hbufs
  isplitl [HsA HsB Hs0 Hs1 Hs2 Hs3 Hsems]
  · isplitl [HsA]; · iexact HsA
    isplitl [HsB]; · iexact HsB
    isplitl [Hs0]; · iexact Hs0
    isplitl [Hs1]; · iexact Hs1
    isplitl [Hs2]; · iexact Hs2
    isplitl [Hs3]; · iexact Hs3
    iexact Hsems
  iexists _
  isplitr; rotate_left
  · iexact HO
  · ipureintro; intro p hp
    rcases Finset.mem_insert.1 hp with rfl | hp
    · exact Or.inr rfl
    · exact hW' p hp

end Cert.Proof.Task

end
-- ==== Proof.Host.lean ====
/-
  The host's operations before the kernel: the offsets padded to a whole number of rows, their 1537 entries kept.
-/
module

public import proofs.«01_k».proof.Proof.Task
public import Idealize.ShloMosaic.Lib.Pipeline.Value

@[expose] public section

set_option maxRecDepth 16384

noncomputable section

namespace Cert.Proof.Host

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Tactic
open Cert.Proof.Spec Cert.Proof.Setup Cert.Proof.Trip

variable {F : FTy → Type} [FloatOps F]

local notation "𝕄" => MT nD τ sig (HIx 1) (Elt F) ℕ (UU F) ℕ

variable (m : (ℓ : Loc nD τ sig) → Buf (Elt F) ℓ)

abbrev rows' : DevRef τ sig := Proc.devRef .tc (main_arg0 : Ref sig .tc)
abbrev argo' : DevRef τ sig := Proc.devRef .tc (main_arg1 : Ref sig .tc)
abbrev c' : DevRef τ sig := Proc.devRef .tc (main_c : Ref sig .tc)
abbrev a0' : DevRef τ sig := Proc.devRef .tc (main_call0_v0 : Ref sig .tc)
abbrev a1' : DevRef τ sig := Proc.devRef .tc (main_call0_v1 : Ref sig .tc)
abbrev a2' : DevRef τ sig := Proc.devRef .tc (main_call0_v2 : Ref sig .tc)
abbrev a3' : DevRef τ sig := Proc.devRef .tc (main_call0_v3 : Ref sig .tc)
abbrev a4' : DevRef τ sig := Proc.devRef .tc (main_call0_v4 : Ref sig .tc)
abbrev a5' : DevRef τ sig := Proc.devRef .tc (main_call0_v5 : Ref sig .tc)
abbrev offs' : DevRef τ sig := Proc.devRef .tc (main_v0 : Ref sig .tc)
abbrev out' : DevRef τ sig := Proc.devRef .tc (main_v1 : Ref sig .tc)

/-! ## The eight operations -/

abbrev tArg : StableHlo.TRef sig ⟨S1537, .i32⟩ := .of main_arg1

abbrev opC : HloOp τ sig (Elt F) := StableHlo.nullary main_c (constantI S_ 32 0#32)
abbrev op0 : HloOp τ sig (Elt F) := StableHlo.TRef.unary tArg main_call0.v0 (extractStridedSlice S1 ![0] · slices_S1537_S1_0)
abbrev op1 : HloOp τ sig (Elt F) := StableHlo.TRef.unary main_call0.v0 main_call0.v1 (broadcastInDim S1x0 ![0] bcast_S1_S1x0_0)
abbrev op2 : HloOp τ sig (Elt F) := StableHlo.TRef.reshape main_call0.v1 main_call0.v2 (rfl : (.i32 : EltTy) = .i32) shapeCasts_S1x0_S0
abbrev op3 : HloOp τ sig (Elt F) := StableHlo.TRef.unary tArg main_call0.v3 (extractStridedSlice S1 ![1536] · slices_S1537_S1_1536)
abbrev op4 : HloOp τ sig (Elt F) := StableHlo.TRef.unary main_call0.v3 main_call0.v4 (broadcastInDim S1x511 ![0] bcast_S1_S1x511_0)
abbrev op5 : HloOp τ sig (Elt F) := StableHlo.TRef.reshape main_call0.v4 main_call0.v5 (rfl : (.i32 : EltTy) = .i32) shapeCasts_S1x511_S511
abbrev op6 : HloOp τ sig (Elt F) := StableHlo.TRef.nary (Ts := ![⟨S0, .i32⟩, ⟨S1537, .i32⟩, ⟨S511, .i32⟩])
  (Fin.cons main_call0.v2 (Fin.cons tArg (Fin.cons main_call0.v5 (fun k => k.elim0)))) main_call0.v6
  (fun u => (concatenate S2048 0 [⟨S0, (u 0 : (⟨S0, .i32⟩ : BufTy).Contents (Elt F))⟩, ⟨S1537, (u 1 : (⟨S1537, .i32⟩ : BufTy).Contents (Elt F))⟩,
    ⟨S511, (u 2 : (⟨S511, .i32⟩ : BufTy).Contents (Elt F))⟩] concatenates_S0_S1537_S511_S2048_d0 : (⟨S2048, .i32⟩ : BufTy).Contents (Elt F)))

/-- The launch contents of a device's arrays, and what each operation leaves. -/
def V0 (d : Dev nD) : Valuation τ sig (Elt F) := fun b => m (d, b)
abbrev VC (d : Dev nD) : Valuation τ sig (Elt F) := (opC (F := F)).result (V0 m d)
abbrev V1 (d : Dev nD) : Valuation τ sig (Elt F) := (op0 (F := F)).result (VC m d)
abbrev V2 (d : Dev nD) : Valuation τ sig (Elt F) := (op1 (F := F)).result (V1 m d)
abbrev V3 (d : Dev nD) : Valuation τ sig (Elt F) := (op2 (F := F)).result (V2 m d)
abbrev V4 (d : Dev nD) : Valuation τ sig (Elt F) := (op3 (F := F)).result (V3 m d)
abbrev V5 (d : Dev nD) : Valuation τ sig (Elt F) := (op4 (F := F)).result (V4 m d)
abbrev V6 (d : Dev nD) : Valuation τ sig (Elt F) := (op5 (F := F)).result (V5 m d)
/-- The device's arrays when the kernel is called. -/
def Vh (d : Dev nD) : Valuation τ sig (Elt F) := (op6 (F := F)).result (V6 m d)

/-- An array that none of the first seven operations writes. -/
theorem V6_of {b : DevRef τ sig} (d : Dev nD) (h : b ∉ ({c', a0', a1', a2', a3', a4', a5'} : Finset (DevRef τ sig))) : V6 m d b = m (d, b) := by
  have hn : ∀ x, x ∈ ({c', a0', a1', a2', a3', a4', a5'} : Finset (DevRef τ sig)) → b ∉ ({x} : Finset (DevRef τ sig)) :=
    fun x hx e => h (Finset.mem_singleton.1 e ▸ hx)
  unfold V6 V5 V4 V3 V2 V1 VC
  rw [(op5 (F := F)).result_of_not_mem _ (hn a5' (by decide)), (op4 (F := F)).result_of_not_mem _ (hn a4' (by decide)),
    (op3 (F := F)).result_of_not_mem _ (hn a3' (by decide)), (op2 (F := F)).result_of_not_mem _ (hn a2' (by decide)),
    (op1 (F := F)).result_of_not_mem _ (hn a1' (by decide)), (op0 (F := F)).result_of_not_mem _ (hn a0' (by decide)),
    (opC (F := F)).result_of_not_mem _ (hn c' (by decide))]
  rfl

theorem Vh_of {b : DevRef τ sig} (d : Dev nD) (h : b ∉ ({c', a0', a1', a2', a3', a4', a5'} : Finset (DevRef τ sig))) (h' : b ≠ offs') : Vh m d b = m (d, b) := by
  unfold Vh
  rw [(op6 (F := F)).result_of_not_mem _ (show b ∉ ({offs'} : Finset (DevRef τ sig)) from fun e => h' (Finset.mem_singleton.1 e))]
  exact V6_of m d h

/-- The padded offsets. -/
def offsV (d : Dev nD) : S2048.Idx → BitVec 32 := Vh m d offs'

/-- What the last operation leaves of the offsets: their three pieces joined. -/
theorem op6_eq (W : Valuation τ sig (Elt F)) :
    ((op6 (F := F)).result W offs' : S2048.Idx → BitVec 32)
      = concatenate S2048 0 [⟨S0, (W a2' : S0.Idx → BitVec 32)⟩, ⟨S1537, (W argo' : S1537.Idx → BitVec 32)⟩,
          ⟨S511, (W a5' : S511.Idx → BitVec 32)⟩] concatenates_S0_S1537_S511_S2048_d0 :=
  StableHlo.nary_result _ _ _ _ _ _

theorem pieces_at (x : S0.Idx → BitVec 32) (y : S1537.Idx → BitVec 32) (z : S511.Idx → BitVec 32) (n : Nat) (hn : n < 2048) (hn' : n < 1537) :
    concatenate S2048 0 [⟨S0, x⟩, ⟨S1537, y⟩, ⟨S511, z⟩] concatenates_S0_S1537_S511_S2048_d0 (fun | 0 => ⟨n, hn⟩) = y (fun | 0 => ⟨n, hn'⟩) := by
  refine concatenate_apply_piece (t := S2048) 0 [⟨S0, x⟩, ⟨S1537, y⟩, ⟨S511, z⟩] concatenates_S0_S1537_S511_S2048_d0 _ 1 (show 1 < 3 by decide) S1537 _ rfl rfl 0 rfl
    (fun | 0 => ⟨n, hn'⟩) ?_ ?_
  · intro b hb; exact absurd (Subsingleton.elim _ _) hb
  · show 0 + n = n; omega

/-- Its first 1537 entries are the offsets. -/
theorem ow_offsV (d : Dev nD) (n : Nat) (hn : n ≤ 1536) :
    ow (offsV m d) n = (m ((SparseCore.T d).loc main_arg1) : S1537.Idx → BitVec 32) (fun | 0 => ⟨n, Nat.lt_succ_of_le hn⟩) := by
  unfold ow
  rw [dif_pos (by omega)]
  unfold offsV Vh
  rw [op6_eq]
  have e : (V6 m d argo' : S1537.Idx → BitVec 32) = m ((SparseCore.T d).loc main_arg1) := V6_of m d (b := argo') (by decide)
  refine (pieces_at _ _ _ n (by omega) (by omega)).trans ?_
  generalize V6 m d argo' = y at e
  subst e
  refine congrArg (m ((SparseCore.T d).loc main_arg1)) (funext fun a => ?_)
  obtain rfl : a = (0 : Fin 1) := Fin.eq_zero a
  rfl

/-! ## The device's arrays together -/

abbrev SH : Finset (DevRef τ sig) := {rows', argo', c', a0', a1', a2', a3', a4', a5', offs', out'}

omit [FloatOps F] in
theorem held_SH (d : Dev nD) (W : Valuation τ sig (Elt F)) :
    (held (T d) SH W : sProp 𝕄)
      = iprop((rowsLoc d ↦{fullShare} W rows') ∗ ((SparseCore.T d).loc main_arg1 ↦{fullShare} W argo') ∗ ((SparseCore.T d).loc main_c ↦{fullShare} W c')
          ∗ ((SparseCore.T d).loc main_call0_v0 ↦{fullShare} W a0') ∗ ((SparseCore.T d).loc main_call0_v1 ↦{fullShare} W a1')
          ∗ ((SparseCore.T d).loc main_call0_v2 ↦{fullShare} W a2') ∗ ((SparseCore.T d).loc main_call0_v3 ↦{fullShare} W a3')
          ∗ ((SparseCore.T d).loc main_call0_v4 ↦{fullShare} W a4') ∗ ((SparseCore.T d).loc main_call0_v5 ↦{fullShare} W a5')
          ∗ (offsLoc d ↦{fullShare} W offs') ∗ outLoc d ↦{fullShare} W out') := by
  unfold held SH
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
theorem unscoped_held (d : Dev nD) : (unscopedBufs d (fun b => m ((SparseCore.T d).loc b)) : sProp 𝕄) = held (T d) SH (V0 m d) := by
  unfold unscopedBufs
  rw [show (Finset.univ.filter fun b : Ref sig .tc => ¬ b.isScoped)
      = {main_arg0, main_arg1, main_c, main_call0_v0, main_call0_v1, main_call0_v2, main_call0_v3, main_call0_v4, main_call0_v5, main_v0, main_v1} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton, held_SH]
  rfl

theorem hC : (opC (F := F)).bufs ⊆ SH := show ({c'} : Finset (DevRef τ sig)) ⊆ SH by decide
theorem h0 : (op0 (F := F)).bufs ⊆ SH := show ({argo', a0'} : Finset (DevRef τ sig)) ⊆ SH by decide
theorem h1 : (op1 (F := F)).bufs ⊆ SH := show ({a0', a1'} : Finset (DevRef τ sig)) ⊆ SH by decide
theorem h2 : (op2 (F := F)).bufs ⊆ SH := show ({a1', a2'} : Finset (DevRef τ sig)) ⊆ SH by decide
theorem h3 : (op3 (F := F)).bufs ⊆ SH := show ({argo', a3'} : Finset (DevRef τ sig)) ⊆ SH by decide
theorem h4 : (op4 (F := F)).bufs ⊆ SH := show ({a3', a4'} : Finset (DevRef τ sig)) ⊆ SH by decide
theorem h5 : (op5 (F := F)).bufs ⊆ SH := show ({a4', a5'} : Finset (DevRef τ sig)) ⊆ SH by decide
theorem h6 : (op6 (F := F)).bufs ⊆ SH := by
  intro b hb
  rcases Finset.mem_insert.mp hb with rfl | hb
  · exact show offs' ∈ SH by decide
  · obtain ⟨k, -, rfl⟩ := Finset.mem_image.mp hb
    match k with
    | 0 => exact show a2' ∈ SH by decide
    | 1 => exact show argo' ∈ SH by decide
    | 2 => exact show a5' ∈ SH by decide

end Cert.Proof.Host

end
-- ==== Proof.Launch.lean ====
/-
  The launch: the host hands the two cores their halves of the result, each core its sixteen tasks their blocks, and
  what comes back is the whole result.
-/
module

public import proofs.«01_k».proof.Proof.Host

@[expose] public section

set_option maxRecDepth 16384

noncomputable section

namespace Cert.Proof.Launch

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ShareLeaves
open Cert.Proof.Spec Cert.Proof.Setup Cert.Proof.Trip Cert.Proof.Tile Cert.Proof.Task Cert.Proof.Host

variable {F : FTy → Type} [FloatOps F]

local notation "𝕄" => MT nD τ sig (HIx 1) (Elt F) ℕ (UU F) ℕ

variable (m : (ℓ : Loc nD τ sig) → Buf (Elt F) ℓ) (ρ : Dev nD → PrngReg)

/-- The packed rows. -/
abbrev Rw (d : Dev nD) : Packed := m (rowsLoc d)
/-- The result's launch contents, and what the call leaves in it. -/
abbrev F0 (d : Dev nD) : S1536x256.Idx → F .f32 := m (outLoc d)
abbrev Tot (d : Dev nD) : S1536x256.Idx → F .f32 := total (F := F) (Rw m d) (offsV m d)

/-! ## Who holds what -/

/-- A core's share of an array read by both. -/
abbrev cq (c : Fin 2) : PosShare TreeShare := leaf 1 fullShare c
/-- A task's share of its core's share. -/
abbrev tq (c : Fin 2) (i : Fin 16) : PosShare TreeShare := leaf 4 (cq c) i

/-- A core's half of the result; a task's block. -/
def half (c : Fin 2) : Finset S1536x256.Idx := Finset.univ.filter fun i => 768 * c.val ≤ (i 0).val ∧ (i 0).val < 768 * c.val + 768
def coordsV (c : Fin (grid0.bound 0)) (s : Fin (grid0.bound 1)) : grid0.Coords
  | 0 => c
  | 1 => s
  | ⟨_ + 2, h⟩ => absurd h (Nat.not_lt.2 (Nat.le_add_left _ _))
def blkOf (c : Fin 2) (i : Fin 16) : Finset S1536x256.Idx := blk (coordsV c i)

theorem mem_blkOf (c : Fin 2) (i : Fin 16) (x : S1536x256.Idx) :
    x ∈ blkOf c i ↔ 768 * c.val + 48 * i.val ≤ (x 0).val ∧ (x 0).val < 768 * c.val + 48 * i.val + 48 := by
  unfold blkOf blk
  rw [Finset.mem_filter]
  exact ⟨fun h => h.2, fun h => ⟨Finset.mem_univ _, h⟩⟩

theorem mem_half (c : Fin 2) (x : S1536x256.Idx) : x ∈ half c ↔ 768 * c.val ≤ (x 0).val ∧ (x 0).val < 768 * c.val + 768 := by
  unfold half
  rw [Finset.mem_filter]
  exact ⟨fun h => h.2, fun h => ⟨Finset.mem_univ _, h⟩⟩

theorem row_lt (x : S1536x256.Idx) : (x 0).val < 1536 := (x 0).isLt

theorem half_disjoint : ∀ c ∈ (Finset.univ : Finset (Fin 2)), ∀ c' ∈ (Finset.univ : Finset (Fin 2)), c ≠ c' → Disjoint (half c) (half c') := by
  intro c _ c' _ h
  rw [Finset.disjoint_left]
  intro x hx hx'
  rw [mem_half] at hx hx'
  exact h (Fin.ext (by omega))

theorem half_cover : (Finset.univ : Finset (Fin 2)).biUnion half = Finset.univ := by
  ext x
  refine ⟨fun _ => Finset.mem_univ _, fun _ => ?_⟩
  have := row_lt x
  rw [Finset.mem_biUnion]
  exact ⟨⟨(x 0).val / 768, by omega⟩, Finset.mem_univ _, (mem_half _ _).2 ⟨by show 768 * ((x 0).val / 768) ≤ _; omega, by show _ < 768 * ((x 0).val / 768) + 768; omega⟩⟩

theorem blk_disjoint (c : Fin 2) : ∀ i ∈ (Finset.univ : Finset (Fin 16)), ∀ j ∈ (Finset.univ : Finset (Fin 16)), i ≠ j → Disjoint (blkOf c i) (blkOf c j) := by
  intro i _ j _ h
  rw [Finset.disjoint_left]
  intro x hx hx'
  rw [mem_blkOf] at hx hx'
  exact h (Fin.ext (by omega))

theorem blk_cover (c : Fin 2) : (Finset.univ : Finset (Fin 16)).biUnion (blkOf c) = half c := by
  ext x
  rw [Finset.mem_biUnion, mem_half]
  constructor
  · rintro ⟨i, -, hi⟩
    rw [mem_blkOf] at hi
    have := i.isLt
    omega
  · intro h
    refine ⟨⟨((x 0).val - 768 * c.val) / 48, by omega⟩, Finset.mem_univ _, (mem_blkOf _ _ _).2 ?_⟩
    show 768 * c.val + 48 * (((x 0).val - 768 * c.val) / 48) ≤ _ ∧ _ < 768 * c.val + 48 * (((x 0).val - 768 * c.val) / 48) + 48
    omega

omit [FloatOps F] in
theorem nCore_zero : (K (F := F)).nCore 0 = 2 := rfl

/-! ## What the handshakes carry -/

abbrev corePts (d : Dev nD) (c : Fin 2) (f : S1536x256.Idx → F .f32) : sProp 𝕄 :=
  iprop((rowsLoc d ↦{cq c} Rw m d) ∗ (offsLoc d ↦{cq c} offsV m d) ∗ (outLoc d ↦[half c]{fullShare} f))
abbrev taskPts (d : Dev nD) (c : Fin 2) (i : Fin 16) (f : S1536x256.Idx → F .f32) : sProp 𝕄 :=
  iprop((rowsLoc d ↦{tq c i} Rw m d) ∗ (offsLoc d ↦{tq c i} offsV m d) ∗ (outLoc d ↦[blkOf c i]{fullShare} f))

/-- A core takes its share of the rows and of the padded offsets and its half of the result; a task its share of those
    and its block. They bring them back, the result at the pooled values. -/
def P : (K (F := F)).Pay (nD := nD) (Val := Elt F) (Name := ℕ) (U := UU F) where
  st := fun q d c => match q with | 0 => corePts m d (Fin.cast nCore_zero c) (F0 m d)
  dn := fun q d c => match q with | 0 => corePts m d (Fin.cast nCore_zero c) (Tot m d)
  go := fun q d c i => match q with | 0 => taskPts m d (Fin.cast nCore_zero c) (Fin.cast nSub_zero i) (F0 m d)
  td := fun q d c i => match q with | 0 => taskPts m d (Fin.cast nCore_zero c) (Fin.cast nSub_zero i) (Tot m d)
  x := fun _ _ => iprop(∃ ιwm : ℕ, wmInv (wmE (F := F)) ιwm)

instance P_storable : (P (F := F) m).IsStorable where
  st q d c := match q with
    | 0 => (inferInstance : BI.Storable (upEmb : UEmb _ 𝕄) (corePts m d (Fin.cast nCore_zero c) (F0 m d)))
  dn q d c := match q with
    | 0 => (inferInstance : BI.Storable (upEmb : UEmb _ 𝕄) (corePts m d (Fin.cast nCore_zero c) (Tot m d)))
  go q d c i := match q with
    | 0 => (inferInstance : BI.Storable (upEmb : UEmb _ 𝕄) (taskPts m d (Fin.cast nCore_zero c) (Fin.cast nSub_zero i) (F0 m d)))
  td q d c i := match q with
    | 0 => (inferInstance : BI.Storable (upEmb : UEmb _ 𝕄) (taskPts m d (Fin.cast nCore_zero c) (Fin.cast nSub_zero i) (Tot m d)))

/-- What is asked of the launch memory: no offset exceeds the number of positions. -/
def PreOK : Prop := ∀ (d : Dev nD) (j : S1537.Idx), ((m ((SparseCore.T d).loc main_arg1) : S1537.Idx → BitVec 32) j).toNat ≤ 122880

theorem inRange (h : PreOK m) (d : Dev nD) : InRange (offsV m d) := by
  intro n hn
  rw [ow_offsV m d n hn]
  exact h d _

/-! ## A task -/

theorem defs₀_vector (c : Fin τ.nSC) (s : Fin τ.nSub) :
    defs₀ (F := F) (.scVector c s) 0 () = SparseCore.onTile hcore0 hsub0 (fun c s => cc0_pool_bags (coordsV c s)
      rowsM (Memref.isWhole_whole _) offM (Memref.isWhole_whole _) outM (Memref.isWhole_whole _) ringM (Memref.isWhole_whole _)
      accM (Memref.isWhole_whole _) Setup.offV (Memref.isWhole_whole _) cc0_scratch3 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (F := F) d (coordsV ⟨_, hci.1⟩ ⟨_, hci.2⟩) (Rw m d) (offsV m d) hF (inRange m hpre d)
    (tq (Fin.cast nCore_zero c) (Fin.cast nSub_zero i)) (tq (Fin.cast nCore_zero c) (Fin.cast nSub_zero i)) (F0 m d) O W hO).trans
      (wp_mono frame _ _ fun _ => obl_post)

/-! ## A core's arrays among its tasks -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem tasks_eq (d : Dev nD) (c : Fin 2) (f : Buf (Elt F) (outLoc d)) :
    (bigSep Finset.univ fun i : Fin 16 => taskPts m d c i f) = corePts m d c f := by
  have e1 := pointsTo_leaves (U := UU F) (Ix := HIx 1) (Val := Elt F) (Name := ℕ) (Lvl := ℕ) (ℓ := rowsLoc d) Finset.univ (Rw m d) 4 (cq c)
  have e2 := pointsTo_leaves (U := UU F) (Ix := HIx 1) (Val := Elt F) (Name := ℕ) (Lvl := ℕ) (ℓ := offsLoc d) Finset.univ (offsV m d) 4 (cq c)
  have e3 := pointsTo_biUnion (U := UU F) (Ix := HIx 1) (Val := Elt F) (Name := ℕ) (Lvl := ℕ) (ℓ := outLoc d) (q := fullShare) (f := f) Finset.univ (blkOf c) (blk_disjoint c)
  rw [blk_cover c] at e3
  show (bigSep Finset.univ fun i : Fin 16 => iprop((rowsLoc d ↦{tq c i} Rw m d) ∗ (offsLoc d ↦{tq c i} offsV m d) ∗ (outLoc d ↦[blkOf c i]{fullShare} f)))
    = iprop((rowsLoc d ↦{cq c} Rw m d) ∗ (offsLoc d ↦{cq c} offsV m d) ∗ (outLoc d ↦[half c]{fullShare} f))
  rw [bigSep_sep', bigSep_sep', e3]
  exact (congrArg₂ (fun A B : sProp 𝕄 => iprop(A ∗ B ∗ bigSep Finset.univ fun i : Fin 16 => outLoc d ↦[blkOf c i]{fullShare} f)) e1 e2).symm

theorem vecSplit : (K (F := F)).VecSplit' (P m) 0 := by
  intro d c
  show corePts m d (Fin.cast nCore_zero c) (F0 m d) ⊢ |={Set.univ}=> iprop(
      (bigSep Finset.univ fun i : Fin ((K (F := F)).nSub 0) => taskPts m d (Fin.cast nCore_zero c) (Fin.cast nSub_zero i) (F0 m d))
      ∗ ((bigSep Finset.univ fun i : Fin ((K (F := F)).nSub 0) => taskPts m d (Fin.cast nCore_zero c) (Fin.cast nSub_zero i) (Tot m d))
          -∗ corePts m d (Fin.cast nCore_zero c) (Tot m d)))
  rw [bigSep_tasks (F := F) (fun i => taskPts m d (Fin.cast nCore_zero c) i (F0 m d)),
    bigSep_tasks (F := F) (fun i => taskPts m d (Fin.cast nCore_zero c) i (Tot m d)), tasks_eq, tasks_eq]
  iintro H; imodintro
  isplitl [H]; · iexact H
  iintro H; iexact H

/-! ## The launch element of the ghost state -/

def u₀ : UU F := (initOf (K (F := F)).hsCells (K (F := F)).hsToks, (wm₀ nD τ sig (Elt F), 1))

omit [FloatOps F] in
theorem bigSep_emp' {I : Type} (s : Finset I) : (bigSep s fun _ => iprop(emp)) = (iprop(emp) : sProp 𝕄) := bigSep_emp_const s

omit [FloatOps F] in
theorem ownU_split (a : UH) (w : WmRA nD τ sig (Elt F)) (k : Counters) :
    (ownU ((a, (w, k)) : UU F) : sProp 𝕄) ⊢ iprop(BI.own (EH a) ∗ ownU (wmE (F := F) w)) := by
  refine (BI.own_op_elim ((uEmb (nD := nD) (sig := sig) (Ix := HIx 1) (Val := Elt F) (Name := ℕ) (U := UU F) (Lvl := ℕ)).toEmb.op_of_mem
    (Prod.mk_mem_op (URA.mem_op_one a) (URA.mem_one_op (w, k))))).trans ?_
  have e : (BI.own ((uEmb (nD := nD) (sig := sig) (Ix := HIx 1) (Val := Elt F) (Name := ℕ) (U := UU F) (Lvl := ℕ)).toEmb ((1 : UH), (w, k))) : sProp 𝕄)
      ⊢ iprop(ownU (wmE (F := F) w) ∗ BI.own ((uEmb (nD := nD) (sig := sig) (Ix := HIx 1) (Val := Elt F) (Name := ℕ) (U := UU F) (Lvl := ℕ)).toEmb
          ((1 : UH), ((1 : WmRA nD τ sig (Elt F)), k)))) :=
    BI.own_op_elim ((uEmb (nD := nD) (sig := sig) (Ix := HIx 1) (Val := Elt F) (Name := ℕ) (U := UU F) (Lvl := ℕ)).toEmb.op_of_mem
      (Prod.mk_mem_op (URA.mem_op_one (1 : UH)) (Prod.mk_mem_op (URA.mem_op_one w) (URA.mem_one_op k))))
  exact BI.sep_mono (BI.Entails.refl _) (e.trans sep_elim_left)

include ρ in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_split _ _ _) $$ Hu
  icases H with ⟨HH, HK⟩
  imod (wmInv_alloc (emb := wmE (F := F)) (⟨m, fun _ => 0, ρ⟩ : MemSt nD τ sig (Elt F)) ∅) $$ HK with ⟨%ι, -, #Hinv⟩
  imodintro
  isplitl [HH]; · iexact HH
  isplitr; · rw [bigSep_emp']; iempintro
  iapply (bigSep_intro_persistent (S := Finset.univ) (R := wmInv (wmE (F := F)) ι)
    (Φ := fun thr : Thread nD τ => bigSep Finset.univ fun q : Fin 1 => (P m).x q thr) fun thr _ =>
      bigSep_intro_persistent (S := Finset.univ) (R := wmInv (wmE (F := F)) ι) (Φ := fun q : Fin 1 => (P m).x q thr) fun q _ => by
        show _ ⊢ iprop(∃ ιwm : ℕ, wmInv (wmE (F := F)) ιwm)
        iintro H; iexists ι; iexact H)
  iexact Hinv

/-! ## The whole program -/

theorem shares_eq (d : Dev nD) (f : Buf (Elt F) (outLoc d)) :
    (bigSep Finset.univ fun c : Fin 2 => corePts m d c f)
      = iprop((rowsLoc d ↦{fullShare} Rw m d) ∗ (offsLoc d ↦{fullShare} offsV m d) ∗ (outLoc d ↦{fullShare} f)) := by
  have e1 := pointsTo_leaves (U := UU F) (Ix := HIx 1) (Val := Elt F) (Name := ℕ) (Lvl := ℕ) (ℓ := rowsLoc d) Finset.univ (Rw m d) 1 fullShare
  have e2 := pointsTo_leaves (U := UU F) (Ix := HIx 1) (Val := Elt F) (Name := ℕ) (Lvl := ℕ) (ℓ := offsLoc d) Finset.univ (offsV m d) 1 fullShare
  have e3 := pointsTo_biUnion (U := UU F) (Ix := HIx 1) (Val := Elt F) (Name := ℕ) (Lvl := ℕ) (ℓ := outLoc d) (q := fullShare) (f := f) Finset.univ half half_disjoint
  rw [half_cover] at e3
  show (bigSep Finset.univ fun c : Fin 2 => iprop((rowsLoc d ↦{cq c} Rw m d) ∗ (offsLoc d ↦{cq c} offsV m d) ∗ (outLoc d ↦[half c]{fullShare} f)))
    = iprop((rowsLoc d ↦{fullShare} Rw m d) ∗ (offsLoc d ↦{fullShare} offsV m d) ∗ (outLoc d ↦[Finset.univ]{fullShare} f))
  rw [bigSep_sep', bigSep_sep', e3]
  exact (congrArg₂ (fun A B : sProp 𝕄 => iprop(A ∗ B ∗ bigSep Finset.univ fun c : Fin 2 => outLoc d ↦[half c]{fullShare} f)) e1 e2).symm

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c)
    = iprop((rowsLoc d ↦{fullShare} Rw m d) ∗ (offsLoc d ↦{fullShare} offsV m d) ∗ (outLoc d ↦{fullShare} F0 m d)) :=
  (bigSep_cores (F := F) (fun c => corePts m d c (F0 m d))).trans (shares_eq m d _)
theorem dn0_eq (d : Dev nD) : (bigSep Finset.univ fun c : Fin ((K (F := F)).nCore 0) => (P m).dn 0 d c)
    = iprop((rowsLoc d ↦{fullShare} Rw m d) ∗ (offsLoc d ↦{fullShare} offsV m d) ∗ (outLoc d ↦{fullShare} Tot m d)) :=
  (bigSep_cores (F := F) (fun c => corePts m d c (Tot m d))).trans (shares_eq m d _)

/-- What is kept of a device at the end: its arguments as they were, the result at the pooled values. -/
abbrev FIN (d : Dev nD) : sProp 𝕄 :=
  iprop((rowsLoc d ↦{fullShare} m (rowsLoc d)) ∗ ((SparseCore.T d).loc main_arg1 ↦{fullShare} m ((SparseCore.T d).loc main_arg1)) ∗ (outLoc d ↦{fullShare} Tot m d))

/-- The arrays the call and the claims need, out of all of them. -/
theorem held_Vh (d : Dev nD) : (held (T d) SH ((op6 (F := F)).result (V6 m d)) : sProp 𝕄)
    ⊢ iprop((rowsLoc d ↦{fullShare} Rw m d) ∗ ((SparseCore.T d).loc main_arg1 ↦{fullShare} m ((SparseCore.T d).loc main_arg1))
        ∗ (offsLoc d ↦{fullShare} offsV m d) ∗ (outLoc d ↦{fullShare} F0 m d)) := by
  show (held (T d) SH (Vh m d) : sProp 𝕄) ⊢ _
  rw [held_SH, Vh_of m d (b := rows') (by decide) (by decide), Vh_of m d (b := argo') (by decide) (by decide), Vh_of m d (b := out') (by decide) (by decide)]
  iintro ⟨Hr, Ha, -, -, -, -, -, -, -, Ho, Hp⟩
  isplitl [Hr]; · iexact Hr
  isplitl [Ha]; · iexact Ha
  isplitl [Ho]; · iexact Ho
  iexact Hp

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := opC) (S := SH) hC (V := V0 m d)) $$ [Hb Hheld]
  · isplitl [Hb] <;> iassumption
  iintro ⟨Hb, Hheld⟩
  rw [wp_ret]; imodintro
  iapply (wp_hlo_within 𝒱 (SparseCore.T d) none Set.univ (op := op0) (S := SH) h0 (V := VC m d)) $$ [Hb Hheld]
  · isplitl [Hb] <;> iassumption
  iintro ⟨Hb, Hheld⟩
  rw [wp_ret]; imodintro
  iapply (wp_hlo_within 𝒱 (SparseCore.T d) none Set.univ (op := op1) (S := SH) h1 (V := V1 m d)) $$ [Hb Hheld]
  · isplitl [Hb] <;> iassumption
  iintro ⟨Hb, Hheld⟩
  rw [wp_ret]; imodintro
  iapply (wp_hlo_within 𝒱 (SparseCore.T d) none Set.univ (op := op2) (S := SH) h2 (V := V2 m d)) $$ [Hb Hheld]
  · isplitl [Hb] <;> iassumption
  iintro ⟨Hb, Hheld⟩
  rw [wp_ret]; imodintro
  iapply (wp_hlo_within 𝒱 (SparseCore.T d) none Set.univ (op := op3) (S := SH) h3 (V := V3 m d)) $$ [Hb Hheld]
  · isplitl [Hb] <;> iassumption
  iintro ⟨Hb, Hheld⟩
  rw [wp_ret]; imodintro
  iapply (wp_hlo_within 𝒱 (SparseCore.T d) none Set.univ (op := op4) (S := SH) h4 (V := V4 m d)) $$ [Hb Hheld]
  · isplitl [Hb] <;> iassumption
  iintro ⟨Hb, Hheld⟩
  rw [wp_ret]; imodintro
  iapply (wp_hlo_within 𝒱 (SparseCore.T d) none Set.univ (op := op5) (S := SH) h5 (V := V5 m d)) $$ [Hb Hheld]
  · isplitl [Hb] <;> iassumption
  iintro ⟨Hb, Hheld⟩
  rw [wp_ret]; imodintro
  iapply (wp_hlo_within 𝒱 (SparseCore.T d) none Set.univ (op := op6) (S := SH) h6 (V := V6 m d)) $$ [Hb Hheld]
  · isplitl [Hb] <;> iassumption
  iintro ⟨Hb, Hheld⟩
  rw [wp_ret]; imodintro
  ihave Hh := (held_Vh m d) $$ Hheld
  icases Hh with ⟨Hr, Ha, Ho, Hp⟩
  iapply ((K (F := F)).wp_run (D (F := F)) 𝒱 (EH := EH) (P := P m) κ d 0) $$ [Hst Hr Ha Ho Hp Hb Hts]
  isplitr; · iexact Hctx
  isplitl [Hst]; · iexact Hst
  isplitl [Hr Ho Hp]
  · rw [st0_eq]
    isplitl [Hr]; · iexact Hr
    isplitl [Ho]; · iexact Ho
    iexact Hp
  iintro ⟨Hst, Hdn⟩
  ihave Hdn' := (Entails.of_eq (dn0_eq m d)) $$ Hdn
  icases Hdn' with ⟨Hr, -, Hp⟩
  imodintro
  isplitl [Hst]; · iexact Hst
  isplitr [Hb Hts]
  · isplitl [Hr]; · iexact Hr
    isplitl [Ha]; · iexact Ha
    iexact Hp
  isplitl [Hb] <;> iassumption

/-- What the claims read of device `d`'s final state. -/
def fq (d : Dev nD) (s' : Phys nD τ sig (Elt F)) : Prop :=
  s'.mem.mem (rowsLoc d) = m (rowsLoc d) ∧ s'.mem.mem ((SparseCore.T d).loc main_arg1) = m ((SparseCore.T d).loc main_arg1) ∧ s'.mem.mem (outLoc d) = Tot m d

theorem hfin (d : Dev nD) (s' : Phys nD τ sig (Elt F)) : iprop(FIN m d ∗ SI s') ⊢ (⌜fq m d s'⌝ : sProp 𝕄) := by
  iintro ⟨⟨Hr, Ha, Hp⟩, HSI⟩
  ihave H := (persistent_entails_right (SI_pointsTo_agree (st := s') (ℓ := rowsLoc d) (I := Finset.univ) (q := fullShare) (f := m (rowsLoc d)))) $$ [HSI Hr]
  · isplitl [HSI] <;> iassumption
  icases H with ⟨%h1, HSI, -⟩
  ihave H := (persistent_entails_right (SI_pointsTo_agree (st := s') (ℓ := (SparseCore.T d).loc main_arg1) (I := Finset.univ) (q := fullShare)
    (f := m ((SparseCore.T d).loc main_arg1)))) $$ [HSI Ha]
  · isplitl [HSI] <;> iassumption
  icases H with ⟨%h2, HSI, -⟩
  ihave H := (SI_pointsTo_agree (st := s') (ℓ := outLoc d) (I := Finset.univ) (q := fullShare) (f := Tot m d)) $$ [HSI Hp]
  · isplitl [HSI] <;> iassumption
  icases H with %h3
  ipureintro
  exact ⟨funext fun i => h1 i (Finset.mem_univ i), funext fun i => h2 i (Finset.mem_univ i), funext fun i => h3 i (Finset.mem_univ i)⟩

/-- Every run ends with the arguments as they were, the result at the pooled values, every semaphore at zero. -/
def QC : PUnit × MemSt nD τ sig (Elt F) → Prop := fun r =>
  (∀ c : Dev nD, r.2.mem (rowsLoc c) = m (rowsLoc c) ∧ r.2.mem ((SparseCore.T c).loc main_arg1) = m ((SparseCore.T c).loc main_arg1) ∧ r.2.mem (outLoc c) = Tot m c)
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m ρ)) (hmain m ρ) (fq m) (hfin m) (QC m) (fun _ h hz => ⟨h, hz⟩)

end Cert.Proof.Launch

end
-- ==== Proof.Frame.lean ====
/-
  The frames: no run of the program faults or deadlocks, each leaves its arguments as they were.
-/
module

public import proofs.«01_k».proof.Proof.Launch
public import proofs.«01_k».proof.Proof.Gen.Kernel
public import proofs.«01_k».proof.Proof.Gen.Pre_offsets_in_range

@[expose] public section

set_option maxRecDepth 16384

noncomputable section

namespace Cert.Proof.Frame

open Idealize.ShloMosaic Idealize.SL.Sem
open Cert.Proof.Launch

/-- An offset that passes the two comparisons is its own value, at most the number of positions. -/
theorem word_of_pre (v : BitVec 32) (e : IntOp.andi (IntOp.cmpi .sge v 0#32) (IntOp.cmpi .sle v 122880#32) = 1#1) : v.toNat ≤ 122880 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem le_of_fn {F : FTy → Type} [FloatOps F] (x : IVec Cert.Pre_offsets_in_range.S122968x128 32) (y : IVec Cert.Pre_offsets_in_range.S1537 32)
    (h : Cert.Pre_offsets_in_range.fn (F := F) x y = fun _ => 1#1) (j : Cert.Pre_offsets_in_range.S1537.Idx) : (y j).toNat ≤ 122880 := by
  have e := congrFun h j
  simp only [Cert.Pre_offsets_in_range.fn, andi, cmpi, broadcastInDim, constantI] at e
  exact word_of_pre _ e

theorem ok_of_pre (m : (ℓ : Loc Cert.KernelIdeal.nD Cert.KernelIdeal.τ Cert.KernelIdeal.sig) → Buf (Elt Ideal) ℓ) (h : Cert.Pre_KernelIdeal m) : PreOK (F := Ideal) m :=
  fun d j => le_of_fn _ _ (h d) j

theorem frame_KernelIdeal : Cert.quiescent_KernelIdeal := fun m ρ hpre =>
  (θ_run Cert.KernelIdeal.defs _ _).mono (fun _ h => ⟨fun c => ⟨(h.1 c).1, (h.1 c).2.1⟩, h.2⟩) (run_main (F := Ideal) m ρ (ok_of_pre m hpre))

theorem frame_Kernel : Cert.quiescent_Kernel := fun m ρ hpre =>
  (θ_run Cert.Kernel.defs _ _).mono (fun _ h => ⟨fun c => ⟨(h.1 c).1, (h.1 c).2.1⟩, h.2⟩) (run_main (F := Bits) m ρ (fun d j => le_of_fn _ _ (hpre d) j))

end Cert.Proof.Frame

end
-- ==== Proof.Masked.lean ====
/-
  The reference's index words and its masked sum, as arithmetic: when a slot of a bag is valid, which row of the
  packed table it reads, that a byte cut out of a word is the kernel's shift and mask, and that the sum over all
  eighty slots with the invalid ones at zero is the kernel's two running sums added.
-/
module

public import proofs.«01_k».proof.Proof.Tile
public import Idealize.ShloMosaic.PureOps.Ideal.Laws

@[expose] public section

set_option maxRecDepth 16384

noncomputable section

namespace Cert.Proof.Masked

open Cert.Proof.Spec Cert.Proof.Words
open Idealize.ShloMosaic

/-- A word below `2 ^ 31` reads the same signed and unsigned. -/
theorem toInt_small {w : BitVec 32} (h : w.toNat < 2147483648) : w.toInt = (w.toNat : Int) := by
  rw [BitVec.toInt_eq_toNat_cond]; split <;> omega

/-- Slot `j` of a bag from `s` to `e` passes the test `j < e - s` exactly when position `s + j` comes before `e`. -/
theorem valid_word (s e : BitVec 32) (j : Nat) (hs : s.toNat ≤ 122880) (he : e.toNat ≤ 122880) (hj : j < 80) :
    IntOp.cmpi .slt (BitVec.ofNat 32 j) (IntOp.subi e s) = BitVec.ofBool (decide (s.toNat + j < e.toNat)) := by
  have hd : (e - s).toInt = (e.toNat : Int) - s.toNat := by
    rw [BitVec.toInt_sub, toInt_small (by omega), toInt_small (by omega)]
    exact Int.bmod_eq_of_le (by omega) (by omega)
  have hjn : (BitVec.ofNat 32 j).toNat = j := by rw [BitVec.toNat_ofNat]; omega
  have hji : (BitVec.ofNat 32 j).toInt = (j : Int) := by rw [toInt_small (by omega), hjn]
  show BitVec.ofBool ((BitVec.ofNat 32 j).slt (e - s)) = _
  congr 1
  rw [BitVec.slt_eq_decide, hd, hji]
  exact decide_eq_decide.mpr (by omega)

/-- The row number after the clamp at the last position and the wrap of a negative number: neither acts on a position
    of the index array. -/
theorem row_word (w : BitVec 32) (h : w.toNat < 122880) :
    Scalar.select (IntOp.cmpi .slt (IntOp.minsi w 122879#32) 0#32) (IntOp.addi (IntOp.minsi w 122879#32) 122968#32)
      (IntOp.minsi w 122879#32) = w := by
  have hi : w.toInt = (w.toNat : Int) := toInt_small (by omega)
  have hm : IntOp.minsi w 122879#32 = w := by
    show (if w.slt 122879#32 then w else 122879#32) = w
    rw [BitVec.slt_eq_decide, hi, show (122879#32).toInt = 122879 by decide]
    by_cases hl : w.toNat < 122879
    · rw [if_pos (by simpa using (by omega : (w.toNat : Int) < 122879))]
    · rw [if_neg (by simpa using (by omega : (122879 : Int) ≤ w.toNat))]
      exact BitVec.eq_of_toNat_eq (by show 122879 = _; omega)
  have hc : IntOp.cmpi .slt w 0#32 = 0#1 := by
    show BitVec.ofBool (w.slt 0#32) = 0#1
    rw [BitVec.slt_eq_decide, hi, show (0#32).toInt = 0 by decide, decide_eq_false (by omega)]; rfl
  rw [hm, hc]; rfl

/-- Position `s + j` as a word. -/
theorem pos_toNat (s : BitVec 32) (j : Nat) (h : s.toNat + j < 122880) : (IntOp.addi s (BitVec.ofNat 32 j)).toNat = s.toNat + j := by
  show (s + BitVec.ofNat 32 j).toNat = _
  rw [BitVec.toNat_add, BitVec.toNat_ofNat]; omega

/-- Byte `q` of a word, widened, is the word shifted right by `8 q` bits and masked to eight bits. -/
theorem byte_word (w : BitVec 32) (q : Nat) (hq : q < 4) :
    (w.extractLsb' (q * 8) 8).setWidth 32 = IntOp.andi (IntOp.shrui .vector w (BitVec.ofNat 32 (8 * q))) 255#32 := by
  have hn : (BitVec.ofNat 32 (8 * q)).toNat = 8 * q := by rw [BitVec.toNat_ofNat]; omega
  have hsh : IntOp.shrui .vector w (BitVec.ofNat 32 (8 * q)) = w >>> (8 * q) := by
    show (if (BitVec.ofNat 32 (8 * q)).toNat < 32 then w >>> (BitVec.ofNat 32 (8 * q)) else _) = _
    rw [if_pos (by omega)]
    show w >>> (BitVec.ofNat 32 (8 * q)).toNat = _
    rw [hn]
  rw [hsh]
  show _ = (w >>> (8 * q)) &&& 255#32
  apply BitVec.eq_of_toNat_eq
  rw [BitVec.toNat_setWidth, BitVec.extractLsb'_toNat, BitVec.toNat_and, BitVec.toNat_ushiftRight,
    show (255#32).toNat = 2 ^ 8 - 1 from rfl, Nat.and_two_pow_sub_one_eq_mod, Nat.mul_comm q 8]
  exact Nat.mod_eq_of_lt (lt_trans (Nat.mod_lt _ (by decide)) (by decide))

/-! ## The sums over the extended reals -/

variable (R : Packed)

/-- What row `r` adds to column `4 c + q`: its code times its scale, plus its bias. -/
def term (c q r : Nat) : EReal :=
  (code (F := Ideal) (wd R r c) q : EReal) * (asFloat (F := Ideal) (wd R r 64) : EReal) + (asFloat (F := Ideal) (wd R r 65) : EReal)

theorem zero_word : (Scalar.ofBits .f32 0x00000000#32 : Ideal .f32) = (0 : EReal) := Ideal.ofBits_zero_f32

theorem sumB_eq (s : Nat) : ∀ n : Nat, (sumB (F := Ideal) R s n : EReal) = ∑ k ∈ Finset.range n, (asFloat (F := Ideal) (wd R (s + k) 65) : EReal)
  | 0 => by rw [Finset.range_zero, Finset.sum_empty]; exact zero_word
  | n + 1 => by
    rw [Finset.sum_range_succ, ← sumB_eq s n]; rfl

theorem sumA_eq (s c q : Nat) : ∀ n : Nat, (sumA (F := Ideal) R s c q n : EReal)
      = ∑ k ∈ Finset.range n, (code (F := Ideal) (wd R (s + k) c) q : EReal) * (asFloat (F := Ideal) (wd R (s + k) 64) : EReal)
  | 0 => by rw [Finset.range_zero, Finset.sum_empty]; exact zero_word
  | n + 1 => by
    rw [Finset.sum_range_succ, ← sumA_eq s c q n]; rfl

/-- The kernel's result: its two running sums added are the sum of the terms. -/
theorem outAt_eq (s e col : Nat) :
    (outAt (F := Ideal) R s e col : EReal) = ∑ k ∈ Finset.range (len s e), term R (col / 4) (col % 4) (s + k) := by
  unfold term
  rw [Finset.sum_add_distrib, ← sumB_eq, ← sumA_eq]; rfl

/-- A sum over eighty slots of which those from `n` on are zero is the sum over the first `n`. -/
theorem masked_sum (f : Nat → EReal) (n : Nat) (hn : n ≤ 80) :
    (∑ k : Fin 80, if k.val < n then f k.val else 0) = ∑ k ∈ Finset.range n, f k := by
  rw [Fin.sum_univ_eq_sum_range (fun k => if k < n then f k else 0) 80, ← Finset.sum_filter]
  congr 1
  ext k
  simp only [Finset.mem_filter, Finset.mem_range]
  omega

theorem lt_len (s e j : Nat) (hj : j < 80) : j < len s e ↔ s + j < e := by
  unfold len; omega

end Cert.Proof.Masked

end
-- ==== Proof.Gather.lean ====
/-
  The reference's gather of table rows, read at an index: slot `(b, j)` holds, at column `c`, the packed table's word
  at the row its start index names, read signed and clamped into the table.
-/
module

public import proofs.«01_k».proof.Proof.Gen.ReferenceIdeal
public import proofs.«01_k».proof.Proof.Spec
public import Idealize.ShloMosaic.Lib.ValueIdxCore

@[expose] public section

set_option maxRecDepth 16384

noncomputable section

namespace Cert.Proof.Gather

open Cert.ReferenceIdeal Cert.ReferenceIdeal.Gen Cert.Proof.Spec
open Idealize.ShloMosaic

/-- The gather's dimension numbers. -/
abbrev dims : GatherDims S122968x128 S1536x80x1 S1536x80x128 := gather_S122968x128_S1536x80x1_S1536x80x128_2_0_n_n_0_2_1128

/-- The start index of slot `(b, j)`. -/
abbrev slotIdx (y : S1536x80x128.Idx) : S1536x80x1.Idx :=
  fun a => match a with
    | ⟨0, _⟩ => ⟨(y 0).val, (y 0).isLt⟩
    | ⟨1, _⟩ => ⟨(y 1).val, (y 1).isLt⟩
    | ⟨2, _⟩ => ⟨0, Nat.one_pos⟩

/-- The word read: at the slot's row, in the result's own column. -/
abbrev rowIdx (idx : IVec S1536x80x1 32) (y : S1536x80x128.Idx) : S122968x128.Idx :=
  fun a => match a with
    | ⟨0, _⟩ => ⟨min (idx (slotIdx y)).toInt.toNat (122968 - 1), lt_of_le_of_lt (Nat.min_le_right _ _) (show 122968 - 1 < 122968 from by decide)⟩
    | ⟨1, _⟩ => ⟨(y 2).val, (y 2).isLt⟩

theorem gather_apply (x : S122968x128.Idx → BitVec 32) (idx : IVec S1536x80x1 32) (y : S1536x80x128.Idx) :
    Host.gather dims x idx y = x (rowIdx idx y) := by
  unfold Host.gather
  congr 1
  funext a
  refine Fin.ext ?_
  show dims.start y idx a + dims.batchCoord y a + dims.offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ dims.startIndexMap from List.mem_singleton.mpr rfl)]
    have hsi : dims.siIdx y ⟨List.idxOf (0 : Fin 2) dims.startIndexMap,
        List.idxOf_lt_length_iff.2 (List.mem_singleton.mpr rfl)⟩ = slotIdx y := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show (1 : Fin 2) ∉ dims.startIndexMap from fun h => absurd (List.mem_singleton.mp h) (by decide))]
    simp only [Nat.zero_add, Nat.add_zero]
    rfl

/-- Read as a word of the packed table, when the start index is a row of it. -/
theorem gather_word (x : Packed) (idx : IVec S1536x80x1 32) (y : S1536x80x128.Idx) (h : (idx (slotIdx y)).toNat < 122968) :
    Host.gather dims x idx y = wd x (idx (slotIdx y)).toNat (y 2).val := by
  have hc : (y 2).val < 128 := (y 2).isLt
  have hi : (idx (slotIdx y)).toInt = ((idx (slotIdx y)).toNat : Int) := by
    rw [BitVec.toInt_eq_toNat_cond]; split <;> omega
  rw [gather_apply, wd, dif_pos ⟨h, hc⟩]
  refine congrArg x (funext fun a => Fin.ext ?_)
  match a with
  | ⟨0, _⟩ => show min (idx (slotIdx y)).toInt.toNat (122968 - 1) = (idx (slotIdx y)).toNat; rw [hi]; omega
  | ⟨1, _⟩ => rfl

end Cert.Proof.Gather

end
-- ==== Proof.Reference.lean ====
/-
  The reference's result, element by element: with every offset in the index array, row `b`, column `col` is the sum
  over the bag's positions of code times scale plus bias — the kernel's result over the extended reals.
-/
module

public import proofs.«01_k».proof.Proof.Masked
public import proofs.«01_k».proof.Proof.Gather
public import proofs.«01_k».proof.Proof.Gen.ReferenceIdeal.Read
public import Idealize.ShloMosaic.Lib.BitcastConvert

@[expose] public section

set_option maxRecDepth 16384

noncomputable section

namespace Cert.Proof.Reference

open Cert.ReferenceIdeal Cert.ReferenceIdeal.Gen Cert.ReferenceIdeal.Read
open Cert.Proof.Spec Cert.Proof.Words Cert.Proof.Masked Cert.Proof.Gather
open Idealize.ShloMosaic

variable (x0 : Packed) (x1 : S1537.Idx → BitVec 32)

/-- Entry `n` of the offsets. -/
def off (n : Nat) (h : n < 1537) : BitVec 32 := x1 (fun | 0 => ⟨n, h⟩)

theorem read_off (i : S1537.Idx) : x1 i = off x1 (i 0).val (i 0).isLt :=
  congrArg x1 (funext fun a => by obtain rfl : a = (0 : Fin 1) := Fin.eq_zero a; rfl)

/-- The first offset of the bag of slot `i`, and the next bag's. -/
def first (b : Fin 1536) : BitVec 32 := off x1 b.val (Nat.lt_succ_of_lt b.isLt)
def next (b : Fin 1536) : BitVec 32 := off x1 (1 + b.val) (by have := b.isLt; omega)

/-- A slot of the reference: bag and place in it. -/
abbrev slot (b : Fin 1536) (j : Fin 80) : S1536x80.Idx :=
  fun a => match a with
    | ⟨0, _⟩ => b
    | ⟨1, _⟩ => j

theorem slot_eta (i : S1536x80.Idx) : i = slot (i 0) (i 1) := by
  funext a
  match a with
  | ⟨0, _⟩ => rfl
  | ⟨1, _⟩ => rfl

variable (b : Fin 1536) (j : Fin 80)

theorem start_eq : val_main_v11 (F := Ideal) x1 (slot b j) = first x1 b := by
  rw [val_main_v11_apply, val_main_v9_apply, val_main_v0_apply]; exact read_off x1 _

theorem length_eq : val_main_v7 (F := Ideal) x1 (slot b j) = IntOp.subi (next x1 b) (first x1 b) := by
  rw [val_main_v7_apply, val_main_v5_apply, val_main_v2_apply, val_main_v1_apply, val_main_v0_apply]
  exact congrArg₂ IntOp.subi (read_off x1 _) (read_off x1 _)

theorem valid_eq (hs : (first x1 b).toNat ≤ 122880) (he : (next x1 b).toNat ≤ 122880) :
    val_main_v8 (F := Ideal) x1 (slot b j) = BitVec.ofBool (decide ((first x1 b).toNat + j.val < (next x1 b).toNat)) := by
  rw [val_main_v8_apply, length_eq, val_main_v6_apply, val_main_v4_apply, val_main_v3_apply]
  exact valid_word _ _ j.val hs he j.isLt

theorem row_eq (h : (first x1 b).toNat + j.val < 122880) :
    (val_main_v20 (F := Ideal) x1 (slot b j)).toNat = (first x1 b).toNat + j.val := by
  have hp : val_main_v13 (F := Ideal) x1 (slot b j) = IntOp.addi (first x1 b) (BitVec.ofNat 32 j.val) := by
    rw [val_main_v13_apply, start_eq, val_main_v12_apply, val_main_v10_apply, val_main_v3_apply]
  have hq := pos_toNat (first x1 b) j.val h
  rw [val_main_v20_apply, val_main_v17_apply, val_main_v19_apply, val_main_v15_apply, hp, val_main_v14_apply, val_main_c_apply,
    val_main_v16_apply, val_main_c_0_apply, val_main_v18_apply, val_main_c_1_apply, row_word _ (by omega), hq]

/-- The words a valid slot reads are the row's of its position. -/
theorem words_eq (h : (first x1 b).toNat + j.val < 122880) (y : S1536x80x128.Idx) (h0 : y 0 = b) (h1 : y 1 = j) :
    val_main_v22 (F := Ideal) x0 x1 y = wd x0 ((first x1 b).toNat + j.val) (y 2).val := by
  have hx : val_main_v21 (F := Ideal) x1 (slotIdx y) = val_main_v20 (F := Ideal) x1 (slot b j) := by
    rw [val_main_v21_apply]
    refine congrArg _ (funext fun a => ?_)
    match a with
    | ⟨0, _⟩ => exact h0
    | ⟨1, _⟩ => exact h1
  have hr := row_eq x1 b j h
  rw [← hx] at hr
  unfold val_main_v22
  rw [gather_word x0 _ y (by rw [hr]; omega), hr]

/-- A slot and a column of the reference's products. -/
abbrev cell (col : Fin 256) : S1536x80x256.Idx :=
  fun a => match a with
    | ⟨0, _⟩ => b
    | ⟨1, _⟩ => j
    | ⟨2, _⟩ => col

theorem code_eq (h : (first x1 b).toNat + j.val < 122880) (col : Fin 256) :
    val_main_v35 (F := Ideal) x0 x1 (cell b j col) = code (F := Ideal) (wd x0 ((first x1 b).toNat + j.val) (col.val / 4)) (col.val % 4) := by
  have hb := b.isLt
  have hj := j.isLt
  have hc := col.isLt
  have hw : val_main_v23 (F := Ideal) x0 x1 (splits_S1536x80x64_w32_S1536x80x64x4_w8.drop (idx_main_v25 (cell b j col)))
      = wd x0 ((first x1 b).toNat + j.val) (col.val / 4) := by
    rw [val_main_v23_apply, words_eq x0 x1 b j h _ (Fin.ext ?_) (Fin.ext ?_)]
    · congr 1
      show ((b.val * 80 + j.val) * 256 + col.val) / 4 % 64 = col.val / 4
      omega
    · show ((b.val * 80 + j.val) * 256 + col.val) / 20480 = b.val
      omega
    · show ((b.val * 80 + j.val) * 256 + col.val) / 256 % 80 = j.val
      omega
  have hq : ((b.val * 80 + j.val) * 256 + col.val) % 4 = col.val % 4 := by omega
  rw [val_main_v35_apply, val_main_v34_apply, val_main_v25_apply]
  unfold val_main_v24 code
  rw [Host.bitcastConvertNarrow_apply, hw, ← byte_word _ _ (Nat.mod_lt _ (by decide)), ← hq]
  rfl

theorem scale_eq (h : (first x1 b).toNat + j.val < 122880) :
    val_main_v28 (F := Ideal) x0 x1 (slot b j) = asFloat (F := Ideal) (wd x0 ((first x1 b).toNat + j.val) 64) := by
  have hb := b.isLt
  have hj := j.isLt
  rw [val_main_v28_apply, val_main_v27_apply, val_main_v26_apply, words_eq x0 x1 b j h _ (Fin.ext ?_) (Fin.ext ?_)]
  · rfl
  · show (b.val * 80 + j.val) / 80 = b.val
    omega
  · show (b.val * 80 + j.val) / 1 % 80 = j.val
    omega

theorem bias_eq (h : (first x1 b).toNat + j.val < 122880) :
    val_main_v31 (F := Ideal) x0 x1 (slot b j) = asFloat (F := Ideal) (wd x0 ((first x1 b).toNat + j.val) 65) := by
  have hb := b.isLt
  have hj := j.isLt
  rw [val_main_v31_apply, val_main_v30_apply, val_main_v29_apply, words_eq x0 x1 b j h _ (Fin.ext ?_) (Fin.ext ?_)]
  · rfl
  · show (b.val * 80 + j.val) / 80 = b.val
    omega
  · show (b.val * 80 + j.val) / 1 % 80 = j.val
    omega

/-- One summand: a valid slot's is its position's term, an invalid one's is zero. -/
theorem summand_eq (hs : (first x1 b).toNat ≤ 122880) (he : (next x1 b).toNat ≤ 122880) (col : Fin 256) :
    (val_main_v41 (F := Ideal) x0 x1 (cell b j col) : EReal)
      = if j.val < len (first x1 b).toNat (next x1 b).toNat then term x0 (col.val / 4) (col.val % 4) ((first x1 b).toNat + j.val) else 0 := by
  have hS : val_main_v37 (F := Ideal) x0 x1 (cell b j col) = val_main_v32 (F := Ideal) x0 x1 (slot b j) := by
    rw [val_main_v37_apply, val_main_v36_apply]
    refine congrArg _ (funext fun a => ?_)
    match a with
    | ⟨0, _⟩ => rfl
    | ⟨1, _⟩ => rfl
  have hB : val_main_v40 (F := Ideal) x0 x1 (cell b j col) = val_main_v33 (F := Ideal) x0 x1 (slot b j) := by
    rw [val_main_v40_apply, val_main_v39_apply]
    refine congrArg _ (funext fun a => ?_)
    match a with
    | ⟨0, _⟩ => rfl
    | ⟨1, _⟩ => rfl
  rw [val_main_v41_apply, val_main_v38_apply, hS, hB, val_main_v32_apply, val_main_v33_apply, valid_eq x1 b j hs he]
  by_cases hv : (first x1 b).toNat + j.val < (next x1 b).toNat
  · rw [if_pos ((lt_len _ _ _ j.isLt).mpr hv), decide_eq_true hv, code_eq x0 x1 b j (by omega), scale_eq x0 x1 b j (by omega), bias_eq x0 x1 b j (by omega)]
    rfl
  · rw [if_neg (fun h => hv ((lt_len _ _ _ j.isLt).mp h)), decide_eq_false hv]
    have z0 : (val_main_call0_v1 (F := Ideal) (slot b j) : EReal) = 0 := by
      rw [val_main_call0_v1_apply, val_main_call0_v0_apply, val_main_cst_apply]; exact zero_word
    have z1 : (val_main_call1_v1 (F := Ideal) (slot b j) : EReal) = 0 := by
      rw [val_main_call1_v1_apply, val_main_call1_v0_apply, val_main_cst_2_apply]; exact zero_word
    show (_ : EReal) * (val_main_call0_v1 (F := Ideal) (slot b j) : EReal) + (val_main_call1_v1 (F := Ideal) (slot b j) : EReal) = 0
    rw [z0, z1, mul_zero, add_zero]

/-- The reference's element is the kernel's. -/
theorem result_eq (i : S1536x256.Idx) (hs : (first x1 (i 0)).toNat ≤ 122880) (he : (next x1 (i 0)).toNat ≤ 122880) :
    val_main_v42 (F := Ideal) x0 x1 i = outAt (F := Ideal) x0 (first x1 (i 0)).toNat (next x1 (i 0)).toNat (i 1).val := by
  rw [val_main_v42_apply, outAt_eq, ← masked_sum _ _ (len_le _ _)]
  have hz : (val_main_cst_3 (F := Ideal) (Shape.Idx.first h_S_) : EReal) = 0 := zero_word
  rw [hz, zero_add]
  refine Finset.sum_congr rfl fun k _ => ?_
  have hk : idx_main_v42 i k = cell (i 0) k (i 1) := by
    funext a
    match a with
    | ⟨0, _⟩ => rfl
    | ⟨1, _⟩ => rfl
    | ⟨2, _⟩ => rfl
  rw [hk]
  exact summand_eq x0 x1 (i 0) k hs he (i 1)

end Cert.Proof.Reference

end
-- ==== Proof.Equation.lean ====
/-
  The two programs side by side: on the same table and offsets, with every offset in the index array, the reference
  ends with what the kernel ends with. And the reference's own frames: it runs from any memory, keeps its arguments,
  and has no semaphore to leave set.
-/
module

public import proofs.«01_k».proof.Proof.Frame
public import proofs.«01_k».proof.Proof.Reference
public import proofs.«01_k».proof.Proof.Gen.ReferenceIdeal.Run
public import proofs.«01_k».proof.Proof.Gen.Pre_offsets_in_range
public import proofs.«01_k».proof.Defs
public import Idealize.ShloMosaic.Lib.Quiescent
public import Idealize.ShloMosaic.Lib.StableHlo.RunHlo

@[expose] public section

set_option maxRecDepth 16384

noncomputable section

namespace Cert.Proof.Equation

open Cert.Proof.Spec Cert.Proof.Words Cert.Proof.Trip Cert.Proof.Tile Cert.Proof.Host Cert.Proof.Launch Cert.Proof.Reference
open Idealize.ShloMosaic Idealize.SL.Sem

/-- The reference has no semaphore. -/
theorem frame_ReferenceIdeal : Cert.quiescent_ReferenceIdeal := fun m g _ =>
  θ_run_mono (Cert.ReferenceIdeal.Value.run (F := Ideal) m g) fun r h => ⟨fun c => (h c).2, sem_eq_zero_of_no_sems (by decide) r.2⟩

theorem frame_ReferenceIdeal_pre : Cert.quiescent_ReferenceIdeal_pre_offsets_in_range := fun m g _ =>
  θ_run_mono (Cert.ReferenceIdeal.Value.run (F := Ideal) m g) fun r h => ⟨fun c => (h c).2, sem_eq_zero_of_no_sems (by decide) r.2⟩

variable (m : (ℓ : Loc Cert.KernelIdeal.nD Cert.KernelIdeal.τ Cert.KernelIdeal.sig) → Buf (Elt Ideal) ℓ)

/-- The offsets given, and the kernel's padded offsets read at a bag's two ends. -/
abbrev offs (d : Dev Cert.KernelIdeal.nD) : Cert.KernelIdeal.S1537.Idx → BitVec 32 := m ((SparseCore.T d).loc Cert.KernelIdeal.main_arg1)

theorem first_eq (d : Dev Cert.KernelIdeal.nD) (b : Fin 1536) : ow (offsV (F := Ideal) m d) b.val = Reference.first (offs m d) b :=
  (ow_offsV (F := Ideal) m d b.val (Nat.le_of_lt b.isLt)).trans (congrArg (offs m d) (funext fun a => by
    obtain rfl : a = (0 : Fin 1) := Fin.eq_zero a
    rfl))

theorem next_eq (d : Dev Cert.KernelIdeal.nD) (b : Fin 1536) : ow (offsV (F := Ideal) m d) (b.val + 1) = Reference.next (offs m d) b := by
  have h := ow_offsV (F := Ideal) m d (b.val + 1) b.isLt
  rw [h]
  unfold Reference.next off
  refine congrArg (offs m d) (funext fun a => ?_)
  obtain rfl : a = (0 : Fin 1) := Fin.eq_zero a
  exact Fin.ext (Nat.add_comm _ _)

/-- The reference's result on the kernel's arguments is the kernel's result. -/
theorem results_eq (hpre : PreOK (F := Ideal) m) (d : Dev Cert.KernelIdeal.nD) :
    Cert.ReferenceIdeal.Read.val_main_v42 (F := Ideal) (Rw (F := Ideal) m d) (offs m d) = Tot (F := Ideal) m d := by
  funext i
  have h0 : (Reference.first (offs m d) (i 0)).toNat ≤ 122880 := hpre d _
  have h1 : (Reference.next (offs m d) (i 0)).toNat ≤ 122880 := hpre d _
  rw [result_eq _ _ i h0 h1]
  show _ = outAt _ (ow (offsV (F := Ideal) m d) (i 0).val).toNat (ow (offsV (F := Ideal) m d) ((i 0).val + 1)).toNat (i 1).val
  rw [first_eq m d (i 0), next_eq m d (i 0)]

theorem algebraic : Cert.algebraic_KernelIdeal_ReferenceIdeal := by
  intro m g m' g' hpre hargs
  have hok := Frame.ok_of_pre m hpre
  refine ⟨fun c => Tot (F := Ideal) m c, ?_, ?_⟩
  · exact θ_run_mono (run_main (F := Ideal) m g hok) fun r h c => ⟨(h.1 c).2.2, (h.1 c).1, (h.1 c).2.1⟩
  · refine θ_run_mono (Cert.ReferenceIdeal.Value.run (F := Ideal) m' g') fun r h c => ⟨(h c).1.trans ?_, (h c).2⟩
    rw [Cert.ReferenceIdeal.Read.val_main_v42_eq, (hargs c).1, (hargs c).2]
    exact results_eq m hok c

end Cert.Proof.Equation

end
-- ==== Proof.lean ====
/- The certificate of the embedding-bag pooling kernel: the kernel and its reading over the extended reals run without
   fault, keep their arguments and leave every semaphore at zero (Proof/Frame.lean, over Proof/Launch.lean); so does the
   reference; the ideal program is the kernel's own text; and kernel and reference compute the same array over the extended
   reals (Proof/Equation.lean). The witnesses of the programs' stated facts are the generated instances. -/
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_offsets_in_range
public import proofs.«01_k».proof.Proof.Frame
public import proofs.«01_k».proof.Proof.Equation
public import Idealize.ShloMosaic.Adequacy
public import Idealize.ShloMosaic.Init

@[expose] public section

noncomputable section

namespace Cert.Proof

/-- Everything claimed: the frames of the kernel, of its ideal program and of the reference, that the ideal program is
    the kernel's, and that kernel and reference agree over the extended reals. -/
theorem claim : Cert.Claim :=
  ⟨Cert.Kernel.Gen.facts, Cert.KernelIdeal.Gen.facts, Cert.ReferenceIdeal.Gen.facts, Cert.Pre_offsets_in_range.Gen.facts,
    Frame.frame_Kernel, Frame.frame_KernelIdeal, Equation.frame_ReferenceIdeal, Equation.frame_ReferenceIdeal_pre, trivial,
    Equation.algebraic⟩

end Cert.Proof

end
